-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Kernel7Ideal_finite_weights [hPre_finite_weights : Cert.Pre_finite_weights.Facts] (m : (ℓ : Loc Cert.Kernel7Ideal.nD Cert.Kernel7Ideal.τ Cert.Kernel7Ideal.sig) → Buf (Elt Ideal) ℓ) : Prop :=
  ∀ c : Dev Cert.Kernel7Ideal.nD,
    (Cert.Pre_finite_weights.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2))) = (fun _ => 1#1)

def Pre_Reference7Ideal (m : (ℓ : Loc Cert.Reference7Ideal.nD Cert.Reference7Ideal.τ Cert.Reference7Ideal.sig) → Buf (Elt Ideal) ℓ) : Prop :=
  True

def Pre_Reference7Ideal_finite_weights [hPre_finite_weights : Cert.Pre_finite_weights.Facts] (m : (ℓ : Loc Cert.Reference7Ideal.nD Cert.Reference7Ideal.τ Cert.Reference7Ideal.sig) → Buf (Elt Ideal) ℓ) : Prop :=
  ∀ c : Dev Cert.Reference7Ideal.nD,
    (Cert.Pre_finite_weights.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Kernel7Ideal_pre_finite_weights [hKernel7Ideal : Cert.Kernel7Ideal.Facts] [hPre_finite_weights : Cert.Pre_finite_weights.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal_finite_weights m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def quiescent_Reference7Ideal_pre_finite_weights [hReference7Ideal : Cert.Reference7Ideal.Facts] [hPre_finite_weights : Cert.Pre_finite_weights.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal_finite_weights m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v69)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v69) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v136) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v4)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v4) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v18) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v4)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v4) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v4) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)) →
    ∃ (v0 : (c : Dev Cert.Kernel4Ideal.nD) → Buf (Elt Ideal) ((c.tc : Thread Cert.Kernel4Ideal.nD Cert.Kernel4Ideal.τ).loc Cert.Kernel4Ideal.main_v1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v1) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v40) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v1) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v2) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v6_0)) (v1 : (c : Dev Cert.Kernel6Ideal.nD) → Buf (Elt Ideal) ((c.tc : Thread Cert.Kernel6Ideal.nD Cert.Kernel6Ideal.τ).loc Cert.Kernel6Ideal.main_v6_1)) (v2 : (c : Dev Cert.Kernel6Ideal.nD) → Buf (Elt Ideal) ((c.tc : Thread Cert.Kernel6Ideal.nD Cert.Kernel6Ideal.τ).loc Cert.Kernel6Ideal.main_v6_2)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v6_0) = v0 c
          ∧ r.2.mem ((c.tc : Thread Cert.Kernel6Ideal.nD Cert.Kernel6Ideal.τ).loc Cert.Kernel6Ideal.main_v6_1) = v1 c
          ∧ r.2.mem ((c.tc : Thread Cert.Kernel6Ideal.nD Cert.Kernel6Ideal.τ).loc Cert.Kernel6Ideal.main_v6_2) = v2 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v15) = v0 c
          ∧ r.2.mem ((c.tc : Thread Cert.Reference6Ideal.nD Cert.Reference6Ideal.τ).loc Cert.Reference6Ideal.main_v16) = v1 c
          ∧ r.2.mem ((c.tc : Thread Cert.Reference6Ideal.nD Cert.Reference6Ideal.τ).loc Cert.Reference6Ideal.main_v17) = v2 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def preserves_Kernel7_Kernel7Ideal : Prop :=
  True

def algebraic_Kernel7Ideal_Reference7Ideal_pre_finite_weights [hKernel7Ideal : Cert.Kernel7Ideal.Facts] [hReference7Ideal : Cert.Reference7Ideal.Facts] [hPre_finite_weights : Cert.Pre_finite_weights.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal_finite_weights m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)) →
    ∃ (v0 : (c : Dev Cert.Kernel7Ideal.nD) → Buf (Elt Ideal) ((c.tc : Thread Cert.Kernel7Ideal.nD Cert.Kernel7Ideal.τ).loc Cert.Kernel7Ideal.main_v2_0)) (v1 : (c : Dev Cert.Kernel7Ideal.nD) → Buf (Elt Ideal) ((c.tc : Thread Cert.Kernel7Ideal.nD Cert.Kernel7Ideal.τ).loc Cert.Kernel7Ideal.main_v2_1)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v2_0) = v0 c
          ∧ r.2.mem ((c.tc : Thread Cert.Kernel7Ideal.nD Cert.Kernel7Ideal.τ).loc Cert.Kernel7Ideal.main_v2_1) = v1 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v12) = v0 c
          ∧ r.2.mem ((c.tc : Thread Cert.Reference7Ideal.nD Cert.Reference7Ideal.τ).loc Cert.Reference7Ideal.main_v27) = v1 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hPre_finite_weights : Cert.Pre_finite_weights.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Kernel7Ideal_pre_finite_weights (hKernel7Ideal := hKernel7Ideal) (hPre_finite_weights := hPre_finite_weights)
    ∧ quiescent_Reference7Ideal (hReference7Ideal := hReference7Ideal)
    ∧ quiescent_Reference7Ideal_pre_finite_weights (hReference7Ideal := hReference7Ideal) (hPre_finite_weights := hPre_finite_weights)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal_pre_finite_weights (hKernel7Ideal := hKernel7Ideal) (hReference7Ideal := hReference7Ideal) (hPre_finite_weights := hPre_finite_weights)
-- ==== Pre_finite_weights.lean ====
abbrev S16384x2048 : Shape := ⟨2, ![16384, 2048]⟩
abbrev S2048 : Shape := ⟨1, ![2048]⟩
abbrev S2048x8 : Shape := ⟨2, ![2048, 8]⟩
abbrev S2048x1 : Shape := ⟨2, ![2048, 1]⟩
abbrev S_ : Shape := ⟨0, ![]⟩

class Facts : Prop where
  bcast_S2048_S2048x1_0 : S2048.BroadcastsInDim S2048x1 (![0] : Fin 1 → Fin S2048x1.rank)
  bcast_S_S2048x1 : S_.BroadcastsInDim S2048x1 (![] : Fin 0 → Fin S2048x1.rank)
  bcast_S_S2048x8 : S_.BroadcastsInDim S2048x8 (![] : Fin 0 → Fin S2048x8.rank)
  bcast_S2048x1_S2048x8_0_1 : S2048x1.BroadcastsInDim S2048x8 (![0, 1] : Fin 2 → Fin S2048x8.rank)

variable [Facts]

def fn {F : FTy → Type} [FloatOps F] (main_arg0 : FVec F S16384x2048 .f32) (main_arg1 : FVec F S2048 .f32) (main_arg2 : FVec F S2048x8 .f32) : IVec S2048x8 1 :=
  let main_v0 : FVec F S2048 .f32 := Host.absf main_arg1
  let main_v1 : FVec F S2048x1 .f32 := broadcastInDim S2048x1 ![0] bcast_S2048_S2048x1_0 main_v0
  let main_cst : FVec F S_ .f32 := constant S_ .f32 0x7F800000#32
  let main_v2 : FVec F S2048x1 .f32 := broadcastInDim S2048x1 ![] bcast_S_S2048x1 main_cst
  let main_v3 : IVec S2048x1 1 := cmpf .olt main_v1 main_v2
  let main_v4 : FVec F S2048x8 .f32 := Host.absf main_arg2
  let main_cst_0 : FVec F S_ .f32 := constant S_ .f32 0x7F800000#32
  let main_v5 : FVec F S2048x8 .f32 := broadcastInDim S2048x8 ![] bcast_S_S2048x8 main_cst_0
  let main_v6 : IVec S2048x8 1 := cmpf .olt main_v4 main_v5
  let main_v7 : IVec S2048x8 1 := broadcastInDim S2048x8 ![0, 1] bcast_S2048x1_S2048x8_0_1 main_v3
  let main_v8 : IVec S2048x8 1 := andi main_v7 main_v6
  main_v8
-- ==== Kernel.lean ====
abbrev S16384x17408 : Shape := ⟨2, ![16384, 17408]⟩
abbrev S8 : Shape := ⟨1, ![8]⟩
abbrev S_ : Shape := ⟨0, ![]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S1x128x128 : Shape := ⟨3, ![1, 128, 128]⟩
abbrev S8x1x1 : Shape := ⟨3, ![8, 1, 1]⟩
abbrev S8x128x128 : Shape := ⟨3, ![8, 128, 128]⟩
abbrev S8x1 : Shape := ⟨2, ![8, 1]⟩
abbrev S8x128 : Shape := ⟨2, ![8, 128]⟩
abbrev S64 : Shape := ⟨1, ![64]⟩
abbrev S4096 : Shape := ⟨1, ![4096]⟩
abbrev S4096x1 : Shape := ⟨2, ![4096, 1]⟩
abbrev S1x64 : Shape := ⟨2, ![1, 64]⟩
abbrev S4096x64 : Shape := ⟨2, ![4096, 64]⟩
abbrev S4096x128 : Shape := ⟨2, ![4096, 128]⟩
abbrev S8x128x1 : Shape := ⟨3, ![8, 128, 1]⟩
abbrev S8x8x128 : Shape := ⟨3, ![8, 8, 128]⟩
abbrev S16384x1024 : Shape := ⟨2, ![16384, 1024]⟩
abbrev S512x1024 : Shape := ⟨2, ![512, 1024]⟩
abbrev S512x128 : Shape := ⟨2, ![512, 128]⟩
abbrev S1x8x128 : Shape := ⟨3, ![1, 8, 128]⟩

abbrev nBuf : Space → Nat
  | .hbm => 84
  | .vmem => 19
  | .smem => 0
  | _ => 0

abbrev bufTy : (tb : Table) → Fin (tcTables nBuf tb) → BufTy
  | .hbm, ⟨0, _⟩ => ⟨S16384x17408, .f32⟩
  | .hbm, ⟨1, _⟩ => ⟨S8, .f32⟩
  | .hbm, ⟨2, _⟩ => ⟨S_, .f32⟩
  | .hbm, ⟨3, _⟩ => ⟨S8, .f32⟩
  | .hbm, ⟨4, _⟩ => ⟨S8, .f32⟩
  | .hbm, ⟨5, _⟩ => ⟨S_, .f32⟩
  | .hbm, ⟨6, _⟩ => ⟨S8, .f32⟩
  | .hbm, ⟨7, _⟩ => ⟨S8, .f32⟩
  | .hbm, ⟨8, _⟩ => ⟨S8, .f32⟩
  | .hbm, ⟨9, _⟩ => ⟨S8, .f32⟩
  | .hbm, ⟨10, _⟩ => ⟨S8, .f32⟩
  | .hbm, ⟨11, _⟩ => ⟨S128, .f32⟩
  | .hbm, ⟨12, _⟩ => ⟨S128x1, .f32⟩
  | .hbm, ⟨13, _⟩ => ⟨S1x128, .f32⟩
  | .hbm, ⟨14, _⟩ => ⟨S128x128, .f32⟩
  | .hbm, ⟨15, _⟩ => ⟨S128x128, .f32⟩
  | .hbm, ⟨16, _⟩ => ⟨S128x128, .f32⟩
  | .hbm, ⟨17, _⟩ => ⟨S_, .f32⟩
  | .hbm, ⟨18, _⟩ => ⟨S128x128, .f32⟩
  | .hbm, ⟨19, _⟩ => ⟨S128x128, .i1⟩
  | .hbm, ⟨20, _⟩ => ⟨S_, .f32⟩
  | .hbm, ⟨21, _⟩ => ⟨S128x128, .f32⟩
  | .hbm, ⟨22, _⟩ => ⟨S128x128, .f32⟩
  | .hbm, ⟨23, _⟩ => ⟨S1x128x128, .f32⟩
  | .hbm, ⟨24, _⟩ => ⟨S8x1x1, .f32⟩
  | .hbm, ⟨25, _⟩ => ⟨S8x128x128, .f32⟩
  | .hbm, ⟨26, _⟩ => ⟨S8x128x128, .f32⟩
  | .hbm, ⟨27, _⟩ => ⟨S8x128x128, .f32⟩
  | .hbm, ⟨28, _⟩ => ⟨S8x128x128, .f32⟩
  | .hbm, ⟨29, _⟩ => ⟨S_, .f32⟩
  | .hbm, ⟨30, _⟩ => ⟨S_, .f32⟩
  | .hbm, ⟨31, _⟩ => ⟨S8x128x128, .i1⟩
  | .hbm, ⟨32, _⟩ => ⟨S8x128x128, .f32⟩
  | .hbm, ⟨33, _⟩ => ⟨S8x128x128, .f32⟩
  | .hbm, ⟨34, _⟩ => ⟨S_, .f32⟩
  | .hbm, ⟨35, _⟩ => ⟨S128, .f32⟩
  | .hbm, ⟨36, _⟩ => ⟨S128, .f32⟩
  | .hbm, ⟨37, _⟩ => ⟨S1x128, .f32⟩
  | .hbm, ⟨38, _⟩ => ⟨S8x1, .f32⟩
  | .hbm, ⟨39, _⟩ => ⟨S8x128, .f32⟩
  | .hbm, ⟨40, _⟩ => ⟨S8x128, .f32⟩
  | .hbm, ⟨41, _⟩ => ⟨S8x128, .f32⟩
  | .hbm, ⟨42, _⟩ => ⟨S8x128, .f32⟩
  | .hbm, ⟨43, _⟩ => ⟨S_, .f32⟩
  | .hbm, ⟨44, _⟩ => ⟨S128, .f32⟩
  | .hbm, ⟨45, _⟩ => ⟨S128, .f32⟩
  | .hbm, ⟨46, _⟩ => ⟨S1x128, .f32⟩
  | .hbm, ⟨47, _⟩ => ⟨S8x1, .f32⟩
  | .hbm, ⟨48, _⟩ => ⟨S8x128, .f32⟩
  | .hbm, ⟨49, _⟩ => ⟨S8x128, .f32⟩
  | .hbm, ⟨50, _⟩ => ⟨S8x128, .f32⟩
  | .hbm, ⟨51, _⟩ => ⟨S8x128, .f32⟩
  | .hbm, ⟨52, _⟩ => ⟨S_, .f32⟩
  | .hbm, ⟨53, _⟩ => ⟨S8, .f32⟩
  | .hbm, ⟨54, _⟩ => ⟨S8, .f32⟩
  | .hbm, ⟨55, _⟩ => ⟨S8, .f32⟩
  | .hbm, ⟨56, _⟩ => ⟨S64, .f32⟩
  | .hbm, ⟨57, _⟩ => ⟨S64, .f32⟩
  | .hbm, ⟨58, _⟩ => ⟨S_, .f32⟩
  | .hbm, ⟨59, _⟩ => ⟨S64, .f32⟩
  | .hbm, ⟨60, _⟩ => ⟨S64, .f32⟩
  | .hbm, ⟨61, _⟩ => ⟨S_, .f32⟩
  | .hbm, ⟨62, _⟩ => ⟨S64, .f32⟩
  | .hbm, ⟨63, _⟩ => ⟨S64, .f32⟩
  | .hbm, ⟨64, _⟩ => ⟨S4096, .f32⟩
  | .hbm, ⟨65, _⟩ => ⟨S4096x1, .f32⟩
  | .hbm, ⟨66, _⟩ => ⟨S1x64, .f32⟩
  | .hbm, ⟨67, _⟩ => ⟨S4096x64, .f32⟩
  | .hbm, ⟨68, _⟩ => ⟨S4096x64, .f32⟩
  | .hbm, ⟨69, _⟩ => ⟨S4096x64, .f32⟩
  | .hbm, ⟨70, _⟩ => ⟨S4096x64, .f32⟩
  | .hbm, ⟨71, _⟩ => ⟨S4096x64, .f32⟩
  | .hbm, ⟨72, _⟩ => ⟨S4096x128, .f32⟩
  | .hbm, ⟨73, _⟩ => ⟨S4096x64, .f32⟩
  | .hbm, ⟨74, _⟩ => ⟨S4096x64, .f32⟩
  | .hbm, ⟨75, _⟩ => ⟨S4096x64, .f32⟩
  | .hbm, ⟨76, _⟩ => ⟨S4096x128, .f32⟩
  | .hbm, ⟨77, _⟩ => ⟨S8x128x1, .f32⟩
  | .hbm, ⟨78, _⟩ => ⟨S8x128x128, .f32⟩
  | .hbm, ⟨79, _⟩ => ⟨S8x128x1, .f32⟩
  | .hbm, ⟨80, _⟩ => ⟨S8x128x128, .f32⟩
  | .hbm, ⟨81, _⟩ => ⟨S8x1x1, .f32⟩
  | .hbm, ⟨82, _⟩ => ⟨S8x8x128, .f32⟩
  | .hbm, ⟨83, _⟩ => ⟨S16384x1024, .bf16⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x128, .f32⟩
  | .local _ .vmem, ⟨9, _⟩ => ⟨S512x128, .f32⟩
  | .local _ .vmem, ⟨10, _⟩ => ⟨S512x128, .f32⟩
  | .local _ .vmem, ⟨11, _⟩ => ⟨S512x128, .f32⟩
  | .local _ .vmem, ⟨12, _⟩ => ⟨S8x128x128, .f32⟩
  | .local _ .vmem, ⟨13, _⟩ => ⟨S8x128x128, .f32⟩
  | .local _ .vmem, ⟨14, _⟩ => ⟨S8x128x128, .f32⟩
  | .local _ .vmem, ⟨15, _⟩ => ⟨S8x8x128, .f32⟩
  | .local _ .vmem, ⟨16, _⟩ => ⟨S512x1024, .bf16⟩
  | .local _ .vmem, ⟨17, _⟩ => ⟨S512x1024, .bf16⟩
  | .local _ .vmem, ⟨18, _⟩ => ⟨S8x128x128, .f32⟩
  | _, _ => ⟨S16384x17408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩
abbrev main_cst_0 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_cst_1 : Ref sig .tc := ⟨.hbm, 17, rfl⟩
abbrev main_v14 : Ref sig .tc := ⟨.hbm, 18, rfl⟩
abbrev main_v15 : Ref sig .tc := ⟨.hbm, 19, rfl⟩
abbrev main_cst_2 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_cst_3 : Ref sig .tc := ⟨.hbm, 29, rfl⟩
abbrev main_call0_v0 : Ref sig .tc := ⟨.hbm, 30, rfl⟩
abbrev main_call0_v1 : Ref sig .tc := ⟨.hbm, 31, rfl⟩
abbrev main_call0_v2 : Ref sig .tc := ⟨.hbm, 32, rfl⟩
abbrev main_v24 : Ref sig .tc := ⟨.hbm, 33, rfl⟩
abbrev main_cst_4 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_cst_5 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_cst_6 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_cst_7 : Ref sig .tc := ⟨.hbm, 58, rfl⟩
abbrev main_v46 : Ref sig .tc := ⟨.hbm, 59, rfl⟩
abbrev main_v47 : Ref sig .tc := ⟨.hbm, 60, rfl⟩
abbrev main_cst_8 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_v66 : Ref sig .tc := ⟨.hbm, 80, rfl⟩
abbrev main_v67 : Ref sig .tc := ⟨.hbm, 81, rfl⟩
abbrev main_v68 : Ref sig .tc := ⟨.hbm, 82, rfl⟩
abbrev main_v69 : Ref sig .tc := ⟨.hbm, 83, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg10_1 : Ref sig .tc := ⟨.vmem, 17, rfl⟩
abbrev cc0_scratch0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem10_1 : DmaSem sig := 17

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c1_i32 : BitVec 32 := 1#32
  let c0_i32 : BitVec 32 := 0#32
  ![v1.toNat, c1_i32.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c2_i32 : BitVec 32 := 2#32
  let c0_i32 : BitVec 32 := 0#32
  ![v1.toNat, c2_i32.toNat]

def cc0_transform_3 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c3_i32 : BitVec 32 := 3#32
  let c0_i32 : BitVec 32 := 0#32
  ![v1.toNat, c3_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 1 → Memref sig .tc .vmem S8x128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S8x128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S8x128x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S8x8x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== ReferenceIdeal.lean ====
abbrev S16384x17408 : Shape := ⟨2, ![16384, 17408]⟩
abbrev S16384x1024 : Shape := ⟨2, ![16384, 1024]⟩
abbrev S4x4096x8x128 : Shape := ⟨4, ![4, 4096, 8, 128]⟩
abbrev S64 : Shape := ⟨1, ![64]⟩
abbrev S_ : Shape := ⟨0, ![]⟩
abbrev S4096 : Shape := ⟨1, ![4096]⟩
abbrev S4096x1 : Shape := ⟨2, ![4096, 1]⟩
abbrev S1x64 : Shape := ⟨2, ![1, 64]⟩
abbrev S4096x64 : Shape := ⟨2, ![4096, 64]⟩
abbrev S1x4096x1x64 : Shape := ⟨4, ![1, 4096, 1, 64]⟩
abbrev S4x4096x8x64 : Shape := ⟨4, ![4, 4096, 8, 64]⟩
abbrev S8 : Shape := ⟨1, ![8]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S1x128x128 : Shape := ⟨3, ![1, 128, 128]⟩
abbrev S8x1x1 : Shape := ⟨3, ![8, 1, 1]⟩
abbrev S8x128x128 : Shape := ⟨3, ![8, 128, 128]⟩
abbrev S4x32x128x8x128 : Shape := ⟨5, ![4, 32, 128, 8, 128]⟩
abbrev S4x32x8x128x128 : Shape := ⟨5, ![4, 32, 8, 128, 128]⟩
abbrev S1x1x8x128x128 : Shape := ⟨5, ![1, 1, 8, 128, 128]⟩
abbrev S1x8 : Shape := ⟨2, ![1, 8]⟩
abbrev S128x8 : Shape := ⟨2, ![128, 8]⟩
abbrev S128x8x1 : Shape := ⟨3, ![128, 8, 1]⟩
abbrev S1x1x128x8x1 : Shape := ⟨5, ![1, 1, 128, 8, 1]⟩
abbrev S32x4x8x128x128 : Shape := ⟨5, ![32, 4, 8, 128, 128]⟩
abbrev S1x8x1x1 : Shape := ⟨4, ![1, 8, 1, 1]⟩
abbrev S4x8x128x128 : Shape := ⟨4, ![4, 8, 128, 128]⟩
abbrev S1x4x8x128x128 : Shape := ⟨5, ![1, 4, 8, 128, 128]⟩
abbrev S4x4096x8 : Shape := ⟨3, ![4, 4096, 8]⟩
abbrev S4x4096x8x1 : Shape := ⟨4, ![4, 4096, 8, 1]⟩

abbrev nBuf : Space → Nat
  | .hbm => 189
  | .vmem => 0
  | .smem => 0
  | _ => 0

abbrev hbmTy0_0 (i : Nat) : BufTy := match i % 128 with
  | 0 => ⟨S16384x17408, .f32⟩
  | 1 => ⟨S16384x1024, .f32⟩
  | 2 => ⟨S4x4096x8x128, .f32⟩
  | 3 => ⟨S16384x1024, .f32⟩
  | 4 => ⟨S4x4096x8x128, .f32⟩
  | 5 => ⟨S16384x1024, .f32⟩
  | 6 => ⟨S4x4096x8x128, .f32⟩
  | 7 => ⟨S16384x1024, .f32⟩
  | 8 => ⟨S4x4096x8x128, .f32⟩
  | 9 => ⟨S64, .f32⟩
  | 10 => ⟨S64, .f32⟩
  | 11 => ⟨S_, .f32⟩
  | 12 => ⟨S64, .f32⟩
  | 13 => ⟨S64, .f32⟩
  | 14 => ⟨S_, .f32⟩
  | 15 => ⟨S64, .f32⟩
  | 16 => ⟨S64, .f32⟩
  | 17 => ⟨S4096, .i32⟩
  | 18 => ⟨S4096, .f32⟩
  | 19 => ⟨S4096x1, .f32⟩
  | 20 => ⟨S1x64, .f32⟩
  | 21 => ⟨S4096x64, .f32⟩
  | 22 => ⟨S4096x64, .f32⟩
  | 23 => ⟨S4096x64, .f32⟩
  | 24 => ⟨S4096x64, .f32⟩
  | 25 => ⟨S1x4096x1x64, .f32⟩
  | 26 => ⟨S4096x64, .f32⟩
  | 27 => ⟨S1x4096x1x64, .f32⟩
  | 28 => ⟨S4x4096x8x64, .f32⟩
  | 29 => ⟨S4x4096x8x64, .f32⟩
  | 30 => ⟨S4x4096x8x64, .f32⟩
  | 31 => ⟨S4x4096x8x64, .f32⟩
  | 32 => ⟨S4x4096x8x64, .f32⟩
  | 33 => ⟨S4x4096x8x64, .f32⟩
  | 34 => ⟨S4x4096x8x64, .f32⟩
  | 35 => ⟨S4x4096x8x64, .f32⟩
  | 36 => ⟨S4x4096x8x64, .f32⟩
  | 37 => ⟨S4x4096x8x64, .f32⟩
  | 38 => ⟨S4x4096x8x64, .f32⟩
  | 39 => ⟨S4x4096x8x64, .f32⟩
  | 40 => ⟨S4x4096x8x128, .f32⟩
  | 41 => ⟨S4x4096x8x64, .f32⟩
  | 42 => ⟨S4x4096x8x64, .f32⟩
  | 43 => ⟨S4x4096x8x64, .f32⟩
  | 44 => ⟨S4x4096x8x64, .f32⟩
  | 45 => ⟨S4x4096x8x64, .f32⟩
  | 46 => ⟨S4x4096x8x64, .f32⟩
  | 47 => ⟨S4x4096x8x64, .f32⟩
  | 48 => ⟨S4x4096x8x64, .f32⟩
  | 49 => ⟨S4x4096x8x64, .f32⟩
  | 50 => ⟨S4x4096x8x64, .f32⟩
  | 51 => ⟨S4x4096x8x64, .f32⟩
  | 52 => ⟨S4x4096x8x64, .f32⟩
  | 53 => ⟨S4x4096x8x128, .f32⟩
  | 54 => ⟨S8, .f32⟩
  | 55 => ⟨S_, .f32⟩
  | 56 => ⟨S8, .f32⟩
  | 57 => ⟨S8, .f32⟩
  | 58 => ⟨S_, .f32⟩
  | 59 => ⟨S8, .f32⟩
  | 60 => ⟨S8, .f32⟩
  | 61 => ⟨S8, .f32⟩
  | 62 => ⟨S8, .f32⟩
  | 63 => ⟨S8, .f32⟩
  | 64 => ⟨S128, .f32⟩
  | 65 => ⟨S128x1, .f32⟩
  | 66 => ⟨S1x128, .f32⟩
  | 67 => ⟨S128x128, .f32⟩
  | 68 => ⟨S128x128, .f32⟩
  | 69 => ⟨S128x128, .f32⟩
  | 70 => ⟨S_, .f32⟩
  | 71 => ⟨S128x128, .f32⟩
  | 72 => ⟨S128x128, .i1⟩
  | 73 => ⟨S_, .f32⟩
  | 74 => ⟨S128x128, .f32⟩
  | 75 => ⟨S128x128, .f32⟩
  | 76 => ⟨S1x128x128, .f32⟩
  | 77 => ⟨S8x1x1, .f32⟩
  | 78 => ⟨S8x128x128, .f32⟩
  | 79 => ⟨S8x128x128, .f32⟩
  | 80 => ⟨S8x128x128, .f32⟩
  | 81 => ⟨S8x128x128, .f32⟩
  | 82 => ⟨S_, .f32⟩
  | 83 => ⟨S_, .f32⟩
  | 84 => ⟨S8x128x128, .i1⟩
  | 85 => ⟨S8x128x128, .f32⟩
  | 86 => ⟨S8x128x128, .f32⟩
  | 87 => ⟨S4x32x128x8x128, .f32⟩
  | 88 => ⟨S4x32x128x8x128, .f32⟩
  | 89 => ⟨S_, .f32⟩
  | 90 => ⟨S4x32x128x8x128, .f32⟩
  | 91 => ⟨S4x32x128x8x128, .f32⟩
  | 92 => ⟨S4x32x128x8x128, .f32⟩
  | 93 => ⟨S4x32x8x128x128, .f32⟩
  | 94 => ⟨S1x1x8x128x128, .f32⟩
  | 95 => ⟨S4x32x8x128x128, .f32⟩
  | 96 => ⟨S4x32x8x128x128, .f32⟩
  | 97 => ⟨S4x32x8x128x128, .f32⟩
  | 98 => ⟨S4x32x128x8x128, .f32⟩
  | 99 => ⟨S_, .f32⟩
  | 100 => ⟨S128, .f32⟩
  | 101 => ⟨S128, .f32⟩
  | 102 => ⟨S128x1, .f32⟩
  | 103 => ⟨S1x8, .f32⟩
  | 104 => ⟨S128x8, .f32⟩
  | 105 => ⟨S128x8, .f32⟩
  | 106 => ⟨S128x8, .f32⟩
  | 107 => ⟨S128x8, .f32⟩
  | 108 => ⟨S128x8x1, .f32⟩
  | 109 => ⟨S1x1x128x8x1, .f32⟩
  | 110 => ⟨S4x32x128x8x128, .f32⟩
  | 111 => ⟨S4x32x128x8x128, .f32⟩
  | 112 => ⟨S32x4x8x128x128, .f32⟩
  | 113 => ⟨S_, .f32⟩
  | 114 => ⟨S8, .f32⟩
  | 115 => ⟨S8, .f32⟩
  | 116 => ⟨S8, .f32⟩
  | 117 => ⟨S1x8x1x1, .f32⟩
  | 118 => ⟨S_, .f32⟩
  | 119 => ⟨S4x8x128x128, .f32⟩
  | 120 => ⟨S_, .f32⟩
  | 121 => ⟨S32x4x8x128x128, .f32⟩
  | 122 => ⟨S_, .i32⟩
  | 123 => ⟨S32x4x8x128x128, .f32⟩
  | 124 => ⟨S1x8x1x1, .f32⟩
  | 125 => ⟨S_, .i32⟩
  | 126 => ⟨S4x8x128x128, .f32⟩
  | 127 => ⟨S32x4x8x128x128, .f32⟩
  | _ => ⟨S16384x17408, .f32⟩

abbrev hbmTy0_1 (i : Nat) : BufTy := match i % 128 with
  | 0 => ⟨S_, .i32⟩
  | 1 => ⟨S_, .i1⟩
  | 2 => ⟨S_, .i32⟩
  | 3 => ⟨S_, .i32⟩
  | 4 => ⟨S_, .i32⟩
  | 5 => ⟨S_, .i32⟩
  | 6 => ⟨S1x4x8x128x128, .f32⟩
  | 7 => ⟨S4x8x128x128, .f32⟩
  | 8 => ⟨S4x8x128x128, .f32⟩
  | 9 => ⟨S4x8x128x128, .f32⟩
  | 10 => ⟨S4x8x128x128, .f32⟩
  | 11 => ⟨S1x4x8x128x128, .f32⟩
  | 12 => ⟨S_, .i32⟩
  | 13 => ⟨S_, .i32⟩
  | 14 => ⟨S_, .i32⟩
  | 15 => ⟨S_, .i32⟩
  | 16 => ⟨S32x4x8x128x128, .f32⟩
  | 17 => ⟨S_, .i32⟩
  | 18 => ⟨S_, .i32⟩
  | 19 => ⟨S_, .f32⟩
  | 20 => ⟨S128, .f32⟩
  | 21 => ⟨S128, .f32⟩
  | 22 => ⟨S128x1, .f32⟩
  | 23 => ⟨S1x8, .f32⟩
  | 24 => ⟨S128x8, .f32⟩
  | 25 => ⟨S128x8, .f32⟩
  | 26 => ⟨S128x8, .f32⟩
  | 27 => ⟨S128x8, .f32⟩
  | 28 => ⟨S128x8x1, .f32⟩
  | 29 => ⟨S1x1x128x8x1, .f32⟩
  | 30 => ⟨S4x32x128x8x128, .f32⟩
  | 31 => ⟨S4x32x128x8x128, .f32⟩
  | 32 => ⟨S4x32x8x128x128, .f32⟩
  | 33 => ⟨S4x32x128x8x128, .f32⟩
  | 34 => ⟨S4x32x128x8x128, .f32⟩
  | 35 => ⟨S4x4096x8x128, .f32⟩
  | 36 => ⟨S4x4096x8x128, .f32⟩
  | 37 => ⟨S_, .f32⟩
  | 38 => ⟨S4x4096x8, .f32⟩
  | 39 => ⟨S4x4096x8x1, .f32⟩
  | 40 => ⟨S_, .f32⟩
  | 41 => ⟨S4x4096x8x1, .f32⟩
  | 42 => ⟨S4x4096x8x1, .f32⟩
  | 43 => ⟨S_, .f32⟩
  | 44 => ⟨S4x4096x8x1, .f32⟩
  | 45 => ⟨S4x4096x8x1, .f32⟩
  | 46 => ⟨S4x4096x8x1, .f32⟩
  | 47 => ⟨S4x4096x8x128, .f32⟩
  | 48 => ⟨S4x4096x8x128, .f32⟩
  | 49 => ⟨S4x4096x8x128, .f32⟩
  | 50 => ⟨S4x4096x8x128, .f32⟩
  | 51 => ⟨S_, .f32⟩
  | 52 => ⟨S4x4096x8x128, .f32⟩
  | 53 => ⟨S4x4096x8x128, .f32⟩
  | 54 => ⟨S_, .f32⟩
  | 55 => ⟨S4x4096x8x128, .f32⟩
  | 56 => ⟨S4x4096x8x128, .f32⟩
  | 57 => ⟨S4x4096x8x128, .f32⟩
  | 58 => ⟨S4x4096x8x128, .f32⟩
  | 59 => ⟨S16384x1024, .f32⟩
  | 60 => ⟨S16384x1024, .bf16⟩
  | _ => ⟨S16384x17408, .f32⟩

abbrev hbmTy (i : Nat) : BufTy := match i / 128 with
  | 0 => hbmTy0_0 i
  | 1 => hbmTy0_1 i
  | _ => ⟨S16384x17408, .f32⟩

abbrev bufTy : (tb : Table) → Fin (tcTables nBuf tb) → BufTy
  | .hbm, ⟨i, _⟩ => hbmTy i
  | _, _ => ⟨S16384x17408, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_v9 : Ref sig .tc := ⟨.hbm, 10, rfl⟩
abbrev main_cst : Ref sig .tc := ⟨.hbm, 11, rfl⟩
abbrev main_v10 : Ref sig .tc := ⟨.hbm, 12, rfl⟩
abbrev main_v11 : Ref sig .tc := ⟨.hbm, 13, rfl⟩
abbrev main_cst_0 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩
abbrev main_v26 : Ref sig .tc := ⟨.hbm, 29, rfl⟩
abbrev main_v27 : Ref sig .tc := ⟨.hbm, 30, rfl⟩
abbrev main_v28 : Ref sig .tc := ⟨.hbm, 31, rfl⟩
abbrev main_v29 : Ref sig .tc := ⟨.hbm, 32, rfl⟩
abbrev main_v30 : Ref sig .tc := ⟨.hbm, 33, rfl⟩
abbrev main_v31 : Ref sig .tc := ⟨.hbm, 34, rfl⟩
abbrev main_v32 : Ref sig .tc := ⟨.hbm, 35, rfl⟩
abbrev main_v33 : Ref sig .tc := ⟨.hbm, 36, rfl⟩
abbrev main_v34 : Ref sig .tc := ⟨.hbm, 37, rfl⟩
abbrev main_v35 : Ref sig .tc := ⟨.hbm, 38, rfl⟩
abbrev main_v36 : Ref sig .tc := ⟨.hbm, 39, rfl⟩
abbrev main_v37 : Ref sig .tc := ⟨.hbm, 40, rfl⟩
abbrev main_v38 : Ref sig .tc := ⟨.hbm, 41, rfl⟩
abbrev main_v39 : Ref sig .tc := ⟨.hbm, 42, rfl⟩
abbrev main_v40 : Ref sig .tc := ⟨.hbm, 43, rfl⟩
abbrev main_v41 : Ref sig .tc := ⟨.hbm, 44, rfl⟩
abbrev main_v42 : Ref sig .tc := ⟨.hbm, 45, rfl⟩
abbrev main_v43 : Ref sig .tc := ⟨.hbm, 46, rfl⟩
abbrev main_v44 : Ref sig .tc := ⟨.hbm, 47, rfl⟩
abbrev main_v45 : Ref sig .tc := ⟨.hbm, 48, rfl⟩
abbrev main_v46 : Ref sig .tc := ⟨.hbm, 49, rfl⟩
abbrev main_v47 : Ref sig .tc := ⟨.hbm, 50, rfl⟩
abbrev main_v48 : Ref sig .tc := ⟨.hbm, 51, rfl⟩
abbrev main_v49 : Ref sig .tc := ⟨.hbm, 52, rfl⟩
abbrev main_v50 : Ref sig .tc := ⟨.hbm, 53, rfl⟩
abbrev main_v51 : Ref sig .tc := ⟨.hbm, 54, rfl⟩
abbrev main_cst_1 : Ref sig .tc := ⟨.hbm, 55, rfl⟩
abbrev main_v52 : Ref sig .tc := ⟨.hbm, 56, rfl⟩
abbrev main_v53 : Ref sig .tc := ⟨.hbm, 57, rfl⟩
abbrev main_cst_2 : Ref sig .tc := ⟨.hbm, 58, rfl⟩
abbrev main_v54 : Ref sig .tc := ⟨.hbm, 59, rfl⟩
abbrev main_v55 : Ref sig .tc := ⟨.hbm, 60, rfl⟩
abbrev main_v56 : Ref sig .tc := ⟨.hbm, 61, rfl⟩
abbrev main_v57 : Ref sig .tc := ⟨.hbm, 62, rfl⟩
abbrev main_v58 : Ref sig .tc := ⟨.hbm, 63, rfl⟩
abbrev main_v59 : Ref sig .tc := ⟨.hbm, 64, rfl⟩
abbrev main_v60 : Ref sig .tc := ⟨.hbm, 65, rfl⟩
abbrev main_v61 : Ref sig .tc := ⟨.hbm, 66, rfl⟩
abbrev main_v62 : Ref sig .tc := ⟨.hbm, 67, rfl⟩
abbrev main_v63 : Ref sig .tc := ⟨.hbm, 68, rfl⟩
abbrev main_v64 : Ref sig .tc := ⟨.hbm, 69, rfl⟩
abbrev main_cst_3 : Ref sig .tc := ⟨.hbm, 70, rfl⟩
abbrev main_v65 : Ref sig .tc := ⟨.hbm, 71, rfl⟩
abbrev main_v66 : Ref sig .tc := ⟨.hbm, 72, rfl⟩
abbrev main_cst_4 : Ref sig .tc := ⟨.hbm, 73, rfl⟩
abbrev main_v67 : Ref sig .tc := ⟨.hbm, 74, rfl⟩
abbrev main_v68 : Ref sig .tc := ⟨.hbm, 75, rfl⟩
abbrev main_v69 : Ref sig .tc := ⟨.hbm, 76, rfl⟩
abbrev main_v70 : Ref sig .tc := ⟨.hbm, 77, rfl⟩
abbrev main_v71 : Ref sig .tc := ⟨.hbm, 78, rfl⟩
abbrev main_v72 : Ref sig .tc := ⟨.hbm, 79, rfl⟩
abbrev main_v73 : Ref sig .tc := ⟨.hbm, 80, rfl⟩
abbrev main_v74 : Ref sig .tc := ⟨.hbm, 81, rfl⟩
abbrev main_cst_5 : Ref sig .tc := ⟨.hbm, 82, rfl⟩
abbrev main_call0_v0 : Ref sig .tc := ⟨.hbm, 83, rfl⟩
abbrev main_call0_v1 : Ref sig .tc := ⟨.hbm, 84, rfl⟩
abbrev main_call0_v2 : Ref sig .tc := ⟨.hbm, 85, rfl⟩
abbrev main_v75 : Ref sig .tc := ⟨.hbm, 86, rfl⟩
abbrev main_v76 : Ref sig .tc := ⟨.hbm, 87, rfl⟩
abbrev main_v77 : Ref sig .tc := ⟨.hbm, 88, rfl⟩
abbrev main_cst_6 : Ref sig .tc := ⟨.hbm, 89, rfl⟩
abbrev main_v78 : Ref sig .tc := ⟨.hbm, 90, rfl⟩
abbrev main_v79 : Ref sig .tc := ⟨.hbm, 91, rfl⟩
abbrev main_v80 : Ref sig .tc := ⟨.hbm, 92, rfl⟩
abbrev main_v81 : Ref sig .tc := ⟨.hbm, 93, rfl⟩
abbrev main_v82 : Ref sig .tc := ⟨.hbm, 94, rfl⟩
abbrev main_v83 : Ref sig .tc := ⟨.hbm, 95, rfl⟩
abbrev main_v84 : Ref sig .tc := ⟨.hbm, 96, rfl⟩
abbrev main_v85 : Ref sig .tc := ⟨.hbm, 97, rfl⟩
abbrev main_v86 : Ref sig .tc := ⟨.hbm, 98, rfl⟩
abbrev main_cst_7 : Ref sig .tc := ⟨.hbm, 99, rfl⟩
abbrev main_v87 : Ref sig .tc := ⟨.hbm, 100, rfl⟩
abbrev main_v88 : Ref sig .tc := ⟨.hbm, 101, rfl⟩
abbrev main_v89 : Ref sig .tc := ⟨.hbm, 102, rfl⟩
abbrev main_v90 : Ref sig .tc := ⟨.hbm, 103, rfl⟩
abbrev main_v91 : Ref sig .tc := ⟨.hbm, 104, rfl⟩
abbrev main_v92 : Ref sig .tc := ⟨.hbm, 105, rfl⟩
abbrev main_v93 : Ref sig .tc := ⟨.hbm, 106, rfl⟩
abbrev main_v94 : Ref sig .tc := ⟨.hbm, 107, rfl⟩
abbrev main_v95 : Ref sig .tc := ⟨.hbm, 108, rfl⟩
abbrev main_v96 : Ref sig .tc := ⟨.hbm, 109, rfl⟩
abbrev main_v97 : Ref sig .tc := ⟨.hbm, 110, rfl⟩
abbrev main_v98 : Ref sig .tc := ⟨.hbm, 111, rfl⟩
abbrev main_v99 : Ref sig .tc := ⟨.hbm, 112, rfl⟩
abbrev main_cst_8 : Ref sig .tc := ⟨.hbm, 113, rfl⟩
abbrev main_v100 : Ref sig .tc := ⟨.hbm, 114, rfl⟩
abbrev main_v101 : Ref sig .tc := ⟨.hbm, 115, rfl⟩
abbrev main_v102 : Ref sig .tc := ⟨.hbm, 116, rfl⟩
abbrev main_v103 : Ref sig .tc := ⟨.hbm, 117, rfl⟩
abbrev main_cst_9 : Ref sig .tc := ⟨.hbm, 118, rfl⟩
abbrev main_v104 : Ref sig .tc := ⟨.hbm, 119, rfl⟩
abbrev main_cst_10 : Ref sig .tc := ⟨.hbm, 120, rfl⟩
abbrev main_v105 : Ref sig .tc := ⟨.hbm, 121, rfl⟩
abbrev main_c : Ref sig .tc := ⟨.hbm, 122, rfl⟩
abbrev main_v106_0 : Ref sig .tc := ⟨.hbm, 123, rfl⟩
abbrev main_v106_1 : Ref sig .tc := ⟨.hbm, 124, rfl⟩
abbrev main_v106_2 : Ref sig .tc := ⟨.hbm, 125, rfl⟩
abbrev main_v106_3 : Ref sig .tc := ⟨.hbm, 126, rfl⟩
abbrev main_v106_4 : Ref sig .tc := ⟨.hbm, 127, rfl⟩
abbrev main_while0c_c_19 : Ref sig .tc := ⟨.hbm, 128, rfl⟩
abbrev main_while0c_v137 : Ref sig .tc := ⟨.hbm, 129, rfl⟩
abbrev main_while0b_call1_c : Ref sig .tc := ⟨.hbm, 130, rfl⟩
abbrev main_while0b_call1_c_0 : Ref sig .tc := ⟨.hbm, 131, rfl⟩
abbrev main_while0b_call1_c_1 : Ref sig .tc := ⟨.hbm, 132, rfl⟩
abbrev main_while0b_call1_c_2 : Ref sig .tc := ⟨.hbm, 133, rfl⟩
abbrev main_while0b_call1_v0 : Ref sig .tc := ⟨.hbm, 134, rfl⟩
abbrev main_while0b_v137 : Ref sig .tc := ⟨.hbm, 135, rfl⟩
abbrev main_while0b_v138 : Ref sig .tc := ⟨.hbm, 136, rfl⟩
abbrev main_while0b_v139 : Ref sig .tc := ⟨.hbm, 137, rfl⟩
abbrev main_while0b_v140 : Ref sig .tc := ⟨.hbm, 138, rfl⟩
abbrev main_while0b_call2_v0 : Ref sig .tc := ⟨.hbm, 139, rfl⟩
abbrev main_while0b_call2_c : Ref sig .tc := ⟨.hbm, 140, rfl⟩
abbrev main_while0b_call2_c_0 : Ref sig .tc := ⟨.hbm, 141, rfl⟩
abbrev main_while0b_call2_c_1 : Ref sig .tc := ⟨.hbm, 142, rfl⟩
abbrev main_while0b_call2_c_2 : Ref sig .tc := ⟨.hbm, 143, rfl⟩
abbrev main_while0b_v141 : Ref sig .tc := ⟨.hbm, 144, rfl⟩
abbrev main_while0b_c_19 : Ref sig .tc := ⟨.hbm, 145, rfl⟩
abbrev main_while0b_v142 : Ref sig .tc := ⟨.hbm, 146, rfl⟩
abbrev main_cst_11 : Ref sig .tc := ⟨.hbm, 147, rfl⟩
abbrev main_v107 : Ref sig .tc := ⟨.hbm, 148, rfl⟩
abbrev main_v108 : Ref sig .tc := ⟨.hbm, 149, rfl⟩
abbrev main_v109 : Ref sig .tc := ⟨.hbm, 150, rfl⟩
abbrev main_v110 : Ref sig .tc := ⟨.hbm, 151, rfl⟩
abbrev main_v111 : Ref sig .tc := ⟨.hbm, 152, rfl⟩
abbrev main_v112 : Ref sig .tc := ⟨.hbm, 153, rfl⟩
abbrev main_v113 : Ref sig .tc := ⟨.hbm, 154, rfl⟩
abbrev main_v114 : Ref sig .tc := ⟨.hbm, 155, rfl⟩
abbrev main_v115 : Ref sig .tc := ⟨.hbm, 156, rfl⟩
abbrev main_v116 : Ref sig .tc := ⟨.hbm, 157, rfl⟩
abbrev main_v117 : Ref sig .tc := ⟨.hbm, 158, rfl⟩
abbrev main_v118 : Ref sig .tc := ⟨.hbm, 159, rfl⟩
abbrev main_v119 : Ref sig .tc := ⟨.hbm, 160, rfl⟩
abbrev main_v120 : Ref sig .tc := ⟨.hbm, 161, rfl⟩
abbrev main_v121 : Ref sig .tc := ⟨.hbm, 162, rfl⟩
abbrev main_v122 : Ref sig .tc := ⟨.hbm, 163, rfl⟩
abbrev main_v123 : Ref sig .tc := ⟨.hbm, 164, rfl⟩
abbrev main_cst_12 : Ref sig .tc := ⟨.hbm, 165, rfl⟩
abbrev main_v124 : Ref sig .tc := ⟨.hbm, 166, rfl⟩
abbrev main_v125 : Ref sig .tc := ⟨.hbm, 167, rfl⟩
abbrev main_cst_13 : Ref sig .tc := ⟨.hbm, 168, rfl⟩
abbrev main_v126 : Ref sig .tc := ⟨.hbm, 169, rfl⟩
abbrev main_v127 : Ref sig .tc := ⟨.hbm, 170, rfl⟩
abbrev main_cst_14 : Ref sig .tc := ⟨.hbm, 171, rfl⟩
abbrev main_v128 : Ref sig .tc := ⟨.hbm, 172, rfl⟩
abbrev main_v129 : Ref sig .tc := ⟨.hbm, 173, rfl⟩
abbrev main_v130 : Ref sig .tc := ⟨.hbm, 174, rfl⟩
abbrev main_v131 : Ref sig .tc := ⟨.hbm, 175, rfl⟩
abbrev main_v132 : Ref sig .tc := ⟨.hbm, 176, rfl⟩
abbrev main_call3_v0 : Ref sig .tc := ⟨.hbm, 177, rfl⟩
abbrev main_call3_v1 : Ref sig .tc := ⟨.hbm, 178, rfl⟩
abbrev main_call3_cst : Ref sig .tc := ⟨.hbm, 179, rfl⟩
abbrev main_call3_v2 : Ref sig .tc := ⟨.hbm, 180, rfl⟩
abbrev main_call3_v3 : Ref sig .tc := ⟨.hbm, 181, rfl⟩
abbrev main_call3_cst_0 : Ref sig .tc := ⟨.hbm, 182, rfl⟩
abbrev main_call3_v4 : Ref sig .tc := ⟨.hbm, 183, rfl⟩
abbrev main_call3_v5 : Ref sig .tc := ⟨.hbm, 184, rfl⟩
abbrev main_v133 : Ref sig .tc := ⟨.hbm, 185, rfl⟩
abbrev main_v134 : Ref sig .tc := ⟨.hbm, 186, rfl⟩
abbrev main_v135 : Ref sig .tc := ⟨.hbm, 187, rfl⟩
abbrev main_v136 : Ref sig .tc := ⟨.hbm, 188, rfl⟩

abbrev nD : Nat := 1
abbrev τ : Topo := Topo.v7x

variable {F : FTy → Type} [FloatOps F]

abbrev main_while0_count : Scf.Loop 32 := ⟨0#32, 32#32, 1#32⟩
-- ==== Kernel2.lean ====
abbrev S16384x2048 : Shape := ⟨2, ![16384, 2048]⟩
abbrev S2048 : Shape := ⟨1, ![2048]⟩
abbrev S2048x5632 : Shape := ⟨2, ![2048, 5632]⟩
abbrev S5632x2048 : Shape := ⟨2, ![5632, 2048]⟩
abbrev S1x2048 : Shape := ⟨2, ![1, 2048]⟩
abbrev S1024x2048 : Shape := ⟨2, ![1024, 2048]⟩
abbrev S2048x512 : Shape := ⟨2, ![2048, 512]⟩
abbrev S512x2048 : Shape := ⟨2, ![512, 2048]⟩
abbrev S1024 : Shape := ⟨1, ![1024]⟩
abbrev S1024x1 : Shape := ⟨2, ![1024, 1]⟩
abbrev S1024x512 : Shape := ⟨2, ![1024, 512]⟩

abbrev nBuf : Space → Nat
  | .hbm => 10
  | .vmem => 12
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S2048x5632, .f32⟩
  | .hbm, ⟨3, _⟩ => ⟨S2048x5632, .f32⟩
  | .hbm, ⟨4, _⟩ => ⟨S5632x2048, .f32⟩
  | .hbm, ⟨5, _⟩ => ⟨S1x2048, .f32⟩
  | .hbm, ⟨6, _⟩ => ⟨S2048x5632, .bf16⟩
  | .hbm, ⟨7, _⟩ => ⟨S2048x5632, .bf16⟩
  | .hbm, ⟨8, _⟩ => ⟨S5632x2048, .bf16⟩
  | .hbm, ⟨9, _⟩ => ⟨S16384x2048, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S2048x512, .bf16⟩
  | .local _ .vmem, ⟨7, _⟩ => ⟨S512x2048, .bf16⟩
  | .local _ .vmem, ⟨8, _⟩ => ⟨S512x2048, .bf16⟩
  | .local _ .vmem, ⟨9, _⟩ => ⟨S1024x2048, .f32⟩
  | .local _ .vmem, ⟨10, _⟩ => ⟨S1024x2048, .f32⟩
  | .local _ .vmem, ⟨11, _⟩ => ⟨S1024x2048, .bf16⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![16, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== Reference2Ideal.lean ====
abbrev S16384x2048 : Shape := ⟨2, ![16384, 2048]⟩
abbrev S2048 : Shape := ⟨1, ![2048]⟩
abbrev S2048x5632 : Shape := ⟨2, ![2048, 5632]⟩
abbrev S5632x2048 : Shape := ⟨2, ![5632, 2048]⟩
abbrev S_ : Shape := ⟨0, ![]⟩
abbrev S16384 : Shape := ⟨1, ![16384]⟩
abbrev S16384x1 : Shape := ⟨2, ![16384, 1]⟩
abbrev S1x2048 : Shape := ⟨2, ![1, 2048]⟩
abbrev S16384x5632 : Shape := ⟨2, ![16384, 5632]⟩

abbrev nBuf : Space → Nat
  | .hbm => 35
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S2048x5632, .f32⟩
  | .hbm, ⟨3, _⟩ => ⟨S2048x5632, .f32⟩
  | .hbm, ⟨4, _⟩ => ⟨S5632x2048, .f32⟩
  | .hbm, ⟨5, _⟩ => ⟨S16384x2048, .f32⟩
  | .hbm, ⟨6, _⟩ => ⟨S_, .f32⟩
  | .hbm, ⟨7, _⟩ => ⟨S16384, .f32⟩
  | .hbm, ⟨8, _⟩ => ⟨S16384x1, .f32⟩
  | .hbm, ⟨9, _⟩ => ⟨S_, .f32⟩
  | .hbm, ⟨10, _⟩ => ⟨S16384x1, .f32⟩
  | .hbm, ⟨11, _⟩ => ⟨S16384x1, .f32⟩
  | .hbm, ⟨12, _⟩ => ⟨S_, .f32⟩
  | .hbm, ⟨13, _⟩ => ⟨S16384x1, .f32⟩
  | .hbm, ⟨14, _⟩ => ⟨S16384x1, .f32⟩
  | .hbm, ⟨15, _⟩ => ⟨S16384x1, .f32⟩
  | .hbm, ⟨16, _⟩ => ⟨S16384x2048, .f32⟩
  | .hbm, ⟨17, _⟩ => ⟨S16384x2048, .f32⟩
  | .hbm, ⟨18, _⟩ => ⟨S1x2048, .f32⟩
  | .hbm, ⟨19, _⟩ => ⟨S16384x2048, .f32⟩
  | .hbm, ⟨20, _⟩ => ⟨S16384x2048, .f32⟩
  | .hbm, ⟨21, _⟩ => ⟨S16384x5632, .f32⟩
  | .hbm, ⟨22, _⟩ => ⟨S16384x5632, .f32⟩
  | .hbm, ⟨23, _⟩ => ⟨S16384x5632, .f32⟩
  | .hbm, ⟨24, _⟩ => ⟨S_, .f32⟩
  | .hbm, ⟨25, _⟩ => ⟨S16384x5632, .f32⟩
  | .hbm, ⟨26, _⟩ => ⟨S16384x5632, .f32⟩
  | .hbm, ⟨27, _⟩ => ⟨S_, .f32⟩
  | .hbm, ⟨28, _⟩ => ⟨S16384x5632, .f32⟩
  | .hbm, ⟨29, _⟩ => ⟨S16384x5632, .f32⟩
  | .hbm, ⟨30, _⟩ => ⟨S16384x5632, .f32⟩
  | .hbm, ⟨31, _⟩ => ⟨S16384x5632, .f32⟩
  | .hbm, ⟨32, _⟩ => ⟨S16384x5632, .f32⟩
  | .hbm, ⟨33, _⟩ => ⟨S16384x2048, .f32⟩
  | .hbm, ⟨34, _⟩ => ⟨S16384x2048, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_call0_v0 : Ref sig .tc := ⟨.hbm, 22, rfl⟩
abbrev main_call0_v1 : Ref sig .tc := ⟨.hbm, 23, rfl⟩
abbrev main_call0_cst : Ref sig .tc := ⟨.hbm, 24, rfl⟩
abbrev main_call0_v2 : Ref sig .tc := ⟨.hbm, 25, rfl⟩
abbrev main_call0_v3 : Ref sig .tc := ⟨.hbm, 26, rfl⟩
abbrev main_call0_cst_0 : Ref sig .tc := ⟨.hbm, 27, rfl⟩
abbrev main_call0_v4 : Ref sig .tc := ⟨.hbm, 28, rfl⟩
abbrev main_call0_v5 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩

abbrev nD : Nat := 1
abbrev τ : Topo := Topo.v7x

variable {F : FTy → Type} [FloatOps F]
-- ==== Kernel3.lean ====
abbrev S16384x2048 : Shape := ⟨2, ![16384, 2048]⟩
abbrev S2048x17424 : Shape := ⟨2, ![2048, 17424]⟩
abbrev S2048x10240 : Shape := ⟨2, ![2048, 10240]⟩
abbrev S2048x7168 : Shape := ⟨2, ![2048, 7168]⟩
abbrev S2048x17408 : Shape := ⟨2, ![2048, 17408]⟩
abbrev S16384x17408 : Shape := ⟨2, ![16384, 17408]⟩
abbrev S2048x2048 : Shape := ⟨2, ![2048, 2048]⟩
abbrev S2048x1024 : Shape := ⟨2, ![2048, 1024]⟩

abbrev nBuf : Space → Nat
  | .hbm => 7
  | .vmem => 6
  | .smem => 0
  | _ => 0

abbrev bufTy : (tb : Table) → Fin (tcTables nBuf tb) → BufTy
  | .hbm, ⟨0, _⟩ => ⟨S16384x2048, .bf16⟩
  | .hbm, ⟨1, _⟩ => ⟨S2048x17424, .f32⟩
  | .hbm, ⟨2, _⟩ => ⟨S2048x10240, .f32⟩
  | .hbm, ⟨3, _⟩ => ⟨S2048x7168, .f32⟩
  | .hbm, ⟨4, _⟩ => ⟨S2048x17408, .f32⟩
  | .hbm, ⟨5, _⟩ => ⟨S2048x17408, .bf16⟩
  | .hbm, ⟨6, _⟩ => ⟨S16384x17408, .f32⟩
  | .local _ .vmem, ⟨0, _⟩ => ⟨S2048x2048, .bf16⟩
  | .local _ .vmem, ⟨1, _⟩ => ⟨S2048x2048, .bf16⟩
  | .local _ .vmem, ⟨2, _⟩ => ⟨S2048x1024, .bf16⟩
  | .local _ .vmem, ⟨3, _⟩ => ⟨S2048x1024, .bf16⟩
  | .local _ .vmem, ⟨4, _⟩ => ⟨S2048x1024, .f32⟩
  | .local _ .vmem, ⟨5, _⟩ => ⟨S2048x1024, .f32⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 17], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference3Ideal.lean ====
abbrev S16384x2048 : Shape := ⟨2, ![16384, 2048]⟩
abbrev S2048x17424 : Shape := ⟨2, ![2048, 17424]⟩
abbrev S16384x17424 : Shape := ⟨2, ![16384, 17424]⟩
abbrev S16384x10240 : Shape := ⟨2, ![16384, 10240]⟩
abbrev S16384x7168 : Shape := ⟨2, ![16384, 7168]⟩
abbrev S16384x17408 : Shape := ⟨2, ![16384, 17408]⟩

abbrev nBuf : Space → Nat
  | .hbm => 7
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S2048x17424, .f32⟩
  | .hbm, ⟨2, _⟩ => ⟨S16384x2048, .f32⟩
  | .hbm, ⟨3, _⟩ => ⟨S16384x17424, .f32⟩
  | .hbm, ⟨4, _⟩ => ⟨S16384x10240, .f32⟩
  | .hbm, ⟨5, _⟩ => ⟨S16384x7168, .f32⟩
  | .hbm, ⟨6, _⟩ => ⟨S16384x17408, .f32⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Kernel4.lean ====
abbrev S16384x1024 : Shape := ⟨2, ![16384, 1024]⟩
abbrev S3x1024x2048 : Shape := ⟨3, ![3, 1024, 2048]⟩
abbrev S16384x17408 : Shape := ⟨2, ![16384, 17408]⟩
abbrev S16384x2048 : Shape := ⟨2, ![16384, 2048]⟩
abbrev S512x1024 : Shape := ⟨2, ![512, 1024]⟩
abbrev S3x1024x1024 : Shape := ⟨3, ![3, 1024, 1024]⟩
abbrev S1x1024x1024 : Shape := ⟨3, ![1, 1024, 1024]⟩
abbrev S1024x1024 : Shape := ⟨2, ![1024, 1024]⟩

abbrev nBuf : Space → Nat
  | .hbm => 7
  | .vmem => 16
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S16384x1024, .bf16⟩
  | .hbm, ⟨3, _⟩ => ⟨S3x1024x2048, .f32⟩
  | .hbm, ⟨4, _⟩ => ⟨S16384x17408, .f32⟩
  | .hbm, ⟨5, _⟩ => ⟨S3x1024x2048, .bf16⟩
  | .hbm, ⟨6, _⟩ => ⟨S16384x2048, .bf16⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S3x1024x1024, .bf16⟩
  | .local _ .vmem, ⟨7, _⟩ => ⟨S3x1024x1024, .bf16⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | .local _ .vmem, ⟨14, _⟩ => ⟨S512x1024, .bf16⟩
  | .local _ .vmem, ⟨15, _⟩ => ⟨S512x1024, .bf16⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![2, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_4 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi c11_i32 arg0
  let c0_i32 : BitVec 32 := 0#32
  ![arg1.toNat, v0.toNat]

def cc0_transform_5 (i : grid0.Coords) : Fin 2 → Nat :=
  let arg0 : BitVec 32 := BitVec.ofNat 32 (i 0).val
  let arg1 : BitVec 32 := BitVec.ofNat 32 (i 1).val
  let c13_i32 : BitVec 32 := 13#32
  let v0 : BitVec 32 := Scalar.addi c13_i32 arg0
  let c0_i32 : BitVec 32 := 0#32
  ![arg1.toNat, v0.toNat]

def cc0_transform_6 (i : grid0.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.addi c15_i32 arg0
  let c0_i32 : BitVec 32 := 0#32
  ![arg1.toNat, v0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S3x1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Reference4Ideal.lean ====
abbrev S16384x1024 : Shape := ⟨2, ![16384, 1024]⟩
abbrev S3x1024x2048 : Shape := ⟨3, ![3, 1024, 2048]⟩
abbrev S16384x17408 : Shape := ⟨2, ![16384, 17408]⟩
abbrev S_ : Shape := ⟨0, ![]⟩
abbrev S16384x2048 : Shape := ⟨2, ![16384, 2048]⟩
abbrev S1x1024x2048 : Shape := ⟨3, ![1, 1024, 2048]⟩
abbrev S1024x2048 : Shape := ⟨2, ![1024, 2048]⟩

abbrev nBuf : Space → Nat
  | .hbm => 53
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S16384x1024, .bf16⟩
  | .hbm, ⟨3, _⟩ => ⟨S3x1024x2048, .f32⟩
  | .hbm, ⟨4, _⟩ => ⟨S16384x17408, .f32⟩
  | .hbm, ⟨5, _⟩ => ⟨S_, .f32⟩
  | .hbm, ⟨6, _⟩ => ⟨S16384x2048, .f32⟩
  | .hbm, ⟨7, _⟩ => ⟨S16384x2048, .f32⟩
  | .hbm, ⟨8, _⟩ => ⟨S16384x2048, .f32⟩
  | .hbm, ⟨9, _⟩ => ⟨S16384x2048, .f32⟩
  | .hbm, ⟨10, _⟩ => ⟨S_, .f32⟩
  | .hbm, ⟨11, _⟩ => ⟨S16384x2048, .f32⟩
  | .hbm, ⟨12, _⟩ => ⟨S16384x2048, .f32⟩
  | .hbm, ⟨13, _⟩ => ⟨S_, .f32⟩
  | .hbm, ⟨14, _⟩ => ⟨S16384x2048, .f32⟩
  | .hbm, ⟨15, _⟩ => ⟨S16384x2048, .f32⟩
  | .hbm, ⟨16, _⟩ => ⟨S16384x1024, .f32⟩
  | .hbm, ⟨17, _⟩ => ⟨S1x1024x2048, .f32⟩
  | .hbm, ⟨18, _⟩ => ⟨S1024x2048, .f32⟩
  | .hbm, ⟨19, _⟩ => ⟨S16384x2048, .f32⟩
  | .hbm, ⟨20, _⟩ => ⟨S16384x2048, .f32⟩
  | .hbm, ⟨21, _⟩ => ⟨S16384x2048, .f32⟩
  | .hbm, ⟨22, _⟩ => ⟨S16384x2048, .f32⟩
  | .hbm, ⟨23, _⟩ => ⟨S16384x2048, .f32⟩
  | .hbm, ⟨24, _⟩ => ⟨S16384x2048, .f32⟩
  | .hbm, ⟨25, _⟩ => ⟨S_, .f32⟩
  | .hbm, ⟨26, _⟩ => ⟨S16384x2048, .f32⟩
  | .hbm, ⟨27, _⟩ => ⟨S16384x2048, .f32⟩
  | .hbm, ⟨28, _⟩ => ⟨S_, .f32⟩
  | .hbm, ⟨29, _⟩ => ⟨S16384x2048, .f32⟩
  | .hbm, ⟨30, _⟩ => ⟨S16384x2048, .f32⟩
  | .hbm, ⟨31, _⟩ => ⟨S16384x1024, .f32⟩
  | .hbm, ⟨32, _⟩ => ⟨S1x1024x2048, .f32⟩
  | .hbm, ⟨33, _⟩ => ⟨S1024x2048, .f32⟩
  | .hbm, ⟨34, _⟩ => ⟨S16384x2048, .f32⟩
  | .hbm, ⟨35, _⟩ => ⟨S16384x2048, .f32⟩
  | .hbm, ⟨36, _⟩ => ⟨S16384x2048, .f32⟩
  | .hbm, ⟨37, _⟩ => ⟨S16384x2048, .f32⟩
  | .hbm, ⟨38, _⟩ => ⟨S16384x2048, .f32⟩
  | .hbm, ⟨39, _⟩ => ⟨S16384x2048, .f32⟩
  | .hbm, ⟨40, _⟩ => ⟨S_, .f32⟩
  | .hbm, ⟨41, _⟩ => ⟨S16384x2048, .f32⟩
  | .hbm, ⟨42, _⟩ => ⟨S16384x2048, .f32⟩
  | .hbm, ⟨43, _⟩ => ⟨S_, .f32⟩
  | .hbm, ⟨44, _⟩ => ⟨S16384x2048, .f32⟩
  | .hbm, ⟨45, _⟩ => ⟨S16384x2048, .f32⟩
  | .hbm, ⟨46, _⟩ => ⟨S16384x1024, .f32⟩
  | .hbm, ⟨47, _⟩ => ⟨S1x1024x2048, .f32⟩
  | .hbm, ⟨48, _⟩ => ⟨S1024x2048, .f32⟩
  | .hbm, ⟨49, _⟩ => ⟨S16384x2048, .f32⟩
  | .hbm, ⟨50, _⟩ => ⟨S16384x2048, .f32⟩
  | .hbm, ⟨51, _⟩ => ⟨S16384x2048, .f32⟩
  | .hbm, ⟨52, _⟩ => ⟨S16384x2048, .bf16⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_2 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_cst_4 : Ref sig .tc := ⟨.hbm, 40, rfl⟩
abbrev main_v30 : Ref sig .tc := ⟨.hbm, 41, rfl⟩
abbrev main_v31 : Ref sig .tc := ⟨.hbm, 42, rfl⟩
abbrev main_cst_5 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩

abbrev nD : Nat := 1
abbrev τ : Topo := Topo.v7x

variable {F : FTy → Type} [FloatOps F]
-- ==== Kernel5.lean ====
abbrev S16384x2048 : Shape := ⟨2, ![16384, 2048]⟩
abbrev S2048x2048 : Shape := ⟨2, ![2048, 2048]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 5
  | .vmem => 8
  | .smem => 0
  | _ => 0

abbrev bufTy : (tb : Table) → Fin (tcTables nBuf tb) → BufTy
  | .hbm, ⟨0, _⟩ => ⟨S16384x2048, .bf16⟩
  | .hbm, ⟨1, _⟩ => ⟨S2048x2048, .f32⟩
  | .hbm, ⟨2, _⟩ => ⟨S16384x2048, .f32⟩
  | .hbm, ⟨3, _⟩ => ⟨S2048x2048, .bf16⟩
  | .hbm, ⟨4, _⟩ => ⟨S16384x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![16, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference5Ideal.lean ====
abbrev S16384x2048 : Shape := ⟨2, ![16384, 2048]⟩
abbrev S2048x2048 : Shape := ⟨2, ![2048, 2048]⟩

abbrev nBuf : Space → Nat
  | .hbm => 6
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S2048x2048, .f32⟩
  | .hbm, ⟨2, _⟩ => ⟨S16384x2048, .f32⟩
  | .hbm, ⟨3, _⟩ => ⟨S16384x2048, .f32⟩
  | .hbm, ⟨4, _⟩ => ⟨S16384x2048, .f32⟩
  | .hbm, ⟨5, _⟩ => ⟨S16384x2048, .f32⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel6.lean ====
abbrev S16384x2048 : Shape := ⟨2, ![16384, 2048]⟩
abbrev S2048 : Shape := ⟨1, ![2048]⟩
abbrev S2048x17424 : Shape := ⟨2, ![2048, 17424]⟩
abbrev S2048x16 : Shape := ⟨2, ![2048, 16]⟩
abbrev S_ : Shape := ⟨0, ![]⟩
abbrev S2048x128 : Shape := ⟨2, ![2048, 128]⟩
abbrev S1x2048 : Shape := ⟨2, ![1, 2048]⟩
abbrev S16x2048 : Shape := ⟨2, ![16, 2048]⟩
abbrev S16384x128 : Shape := ⟨2, ![16384, 128]⟩
abbrev S16x16384 : Shape := ⟨2, ![16, 16384]⟩
abbrev S512x2048 : Shape := ⟨2, ![512, 2048]⟩
abbrev S512x128 : Shape := ⟨2, ![512, 128]⟩
abbrev S16x512 : Shape := ⟨2, ![16, 512]⟩
abbrev S512 : Shape := ⟨1, ![512]⟩
abbrev S512x1 : Shape := ⟨2, ![512, 1]⟩

abbrev nBuf : Space → Nat
  | .hbm => 14
  | .vmem => 11
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S2048x17424, .f32⟩
  | .hbm, ⟨3, _⟩ => ⟨S2048x16, .f32⟩
  | .hbm, ⟨4, _⟩ => ⟨S_, .i32⟩
  | .hbm, ⟨5, _⟩ => ⟨S_, .f32⟩
  | .hbm, ⟨6, _⟩ => ⟨S2048x128, .f32⟩
  | .hbm, ⟨7, _⟩ => ⟨S2048x128, .bf16⟩
  | .hbm, ⟨8, _⟩ => ⟨S1x2048, .f32⟩
  | .hbm, ⟨9, _⟩ => ⟨S16x2048, .f32⟩
  | .hbm, ⟨10, _⟩ => ⟨S16x2048, .bf16⟩
  | .hbm, ⟨11, _⟩ => ⟨S16384x2048, .bf16⟩
  | .hbm, ⟨12, _⟩ => ⟨S16384x128, .f32⟩
  | .hbm, ⟨13, _⟩ => ⟨S16x16384, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S2048x128, .bf16⟩
  | .local _ .vmem, ⟨4, _⟩ => ⟨S16x2048, .bf16⟩
  | .local _ .vmem, ⟨5, _⟩ => ⟨S512x2048, .bf16⟩
  | .local _ .vmem, ⟨6, _⟩ => ⟨S512x2048, .bf16⟩
  | .local _ .vmem, ⟨7, _⟩ => ⟨S512x128, .f32⟩
  | .local _ .vmem, ⟨8, _⟩ => ⟨S512x128, .f32⟩
  | .local _ .vmem, ⟨9, _⟩ => ⟨S16x512, .f32⟩
  | .local _ .vmem, ⟨10, _⟩ => ⟨S16x512, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_call0_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6_0 : Ref sig .tc := ⟨.hbm, 11, rfl⟩
abbrev main_v6_1 : Ref sig .tc := ⟨.hbm, 12, rfl⟩
abbrev main_v6_2 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S16x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S16x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference6Ideal.lean ====
abbrev S16384x2048 : Shape := ⟨2, ![16384, 2048]⟩
abbrev S2048 : Shape := ⟨1, ![2048]⟩
abbrev S2048x17424 : Shape := ⟨2, ![2048, 17424]⟩
abbrev S_ : Shape := ⟨0, ![]⟩
abbrev S16384 : Shape := ⟨1, ![16384]⟩
abbrev S16384x1 : Shape := ⟨2, ![16384, 1]⟩
abbrev S1x2048 : Shape := ⟨2, ![1, 2048]⟩
abbrev S16384x17424 : Shape := ⟨2, ![16384, 17424]⟩
abbrev S16384x16 : Shape := ⟨2, ![16384, 16]⟩
abbrev S16384x128 : Shape := ⟨2, ![16384, 128]⟩
abbrev S16x16384 : Shape := ⟨2, ![16, 16384]⟩

abbrev nBuf : Space → Nat
  | .hbm => 26
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S2048x17424, .f32⟩
  | .hbm, ⟨3, _⟩ => ⟨S16384x2048, .f32⟩
  | .hbm, ⟨4, _⟩ => ⟨S_, .f32⟩
  | .hbm, ⟨5, _⟩ => ⟨S16384, .f32⟩
  | .hbm, ⟨6, _⟩ => ⟨S16384x1, .f32⟩
  | .hbm, ⟨7, _⟩ => ⟨S_, .f32⟩
  | .hbm, ⟨8, _⟩ => ⟨S16384x1, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S16384x1, .f32⟩
  | .hbm, ⟨14, _⟩ => ⟨S16384x2048, .f32⟩
  | .hbm, ⟨15, _⟩ => ⟨S16384x2048, .f32⟩
  | .hbm, ⟨16, _⟩ => ⟨S1x2048, .f32⟩
  | .hbm, ⟨17, _⟩ => ⟨S16384x2048, .f32⟩
  | .hbm, ⟨18, _⟩ => ⟨S16384x2048, .f32⟩
  | .hbm, ⟨19, _⟩ => ⟨S16384x17424, .f32⟩
  | .hbm, ⟨20, _⟩ => ⟨S16384x16, .f32⟩
  | .hbm, ⟨21, _⟩ => ⟨S16384x2048, .bf16⟩
  | .hbm, ⟨22, _⟩ => ⟨S_, .i32⟩
  | .hbm, ⟨23, _⟩ => ⟨S_, .f32⟩
  | .hbm, ⟨24, _⟩ => ⟨S16384x128, .f32⟩
  | .hbm, ⟨25, _⟩ => ⟨S16x16384, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_c : Ref sig .tc := ⟨.hbm, 22, rfl⟩
abbrev main_call0_v0 : Ref sig .tc := ⟨.hbm, 23, rfl⟩
abbrev main_v16 : Ref sig .tc := ⟨.hbm, 24, rfl⟩
abbrev main_v17 : Ref sig .tc := ⟨.hbm, 25, rfl⟩

abbrev nD : Nat := 1
abbrev τ : Topo := Topo.v7x

variable {F : FTy → Type} [FloatOps F]
-- ==== Kernel7.lean ====
abbrev S16384x2048 : Shape := ⟨2, ![16384, 2048]⟩
abbrev S2048 : Shape := ⟨1, ![2048]⟩
abbrev S2048x8 : Shape := ⟨2, ![2048, 8]⟩
abbrev S1x2048 : Shape := ⟨2, ![1, 2048]⟩
abbrev S_ : Shape := ⟨0, ![]⟩
abbrev S2048x128 : Shape := ⟨2, ![2048, 128]⟩
abbrev S16384x128 : Shape := ⟨2, ![16384, 128]⟩
abbrev S512x2048 : Shape := ⟨2, ![512, 2048]⟩
abbrev S512x128 : Shape := ⟨2, ![512, 128]⟩
abbrev S512 : Shape := ⟨1, ![512]⟩
abbrev S512x1 : Shape := ⟨2, ![512, 1]⟩

abbrev nBuf : Space → Nat
  | .hbm => 9
  | .vmem => 8
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S2048x8, .f32⟩
  | .hbm, ⟨3, _⟩ => ⟨S1x2048, .f32⟩
  | .hbm, ⟨4, _⟩ => ⟨S_, .i32⟩
  | .hbm, ⟨5, _⟩ => ⟨S_, .f32⟩
  | .hbm, ⟨6, _⟩ => ⟨S2048x128, .f32⟩
  | .hbm, ⟨7, _⟩ => ⟨S16384x2048, .f32⟩
  | .hbm, ⟨8, _⟩ => ⟨S16384x128, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S2048x128, .f32⟩
  | .local _ .vmem, ⟨4, _⟩ => ⟨S512x2048, .f32⟩
  | .local _ .vmem, ⟨5, _⟩ => ⟨S512x2048, .f32⟩
  | .local _ .vmem, ⟨6, _⟩ => ⟨S512x128, .f32⟩
  | .local _ .vmem, ⟨7, _⟩ => ⟨S512x128, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_call0_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference7Ideal.lean ====
abbrev S16384x2048 : Shape := ⟨2, ![16384, 2048]⟩
abbrev S2048 : Shape := ⟨1, ![2048]⟩
abbrev S2048x8 : Shape := ⟨2, ![2048, 8]⟩
abbrev S_ : Shape := ⟨0, ![]⟩
abbrev S16384 : Shape := ⟨1, ![16384]⟩
abbrev S16384x1 : Shape := ⟨2, ![16384, 1]⟩
abbrev S1x2048 : Shape := ⟨2, ![1, 2048]⟩
abbrev S16384x8 : Shape := ⟨2, ![16384, 8]⟩
abbrev S16384x2 : Shape := ⟨2, ![16384, 2]⟩
abbrev S16384x4 : Shape := ⟨2, ![16384, 4]⟩
abbrev S16384x128 : Shape := ⟨2, ![16384, 128]⟩

abbrev nBuf : Space → Nat
  | .hbm => 41
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S2048x8, .f32⟩
  | .hbm, ⟨3, _⟩ => ⟨S16384x2048, .f32⟩
  | .hbm, ⟨4, _⟩ => ⟨S_, .f32⟩
  | .hbm, ⟨5, _⟩ => ⟨S16384, .f32⟩
  | .hbm, ⟨6, _⟩ => ⟨S16384x1, .f32⟩
  | .hbm, ⟨7, _⟩ => ⟨S_, .f32⟩
  | .hbm, ⟨8, _⟩ => ⟨S16384x1, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S16384x1, .f32⟩
  | .hbm, ⟨14, _⟩ => ⟨S16384x2048, .f32⟩
  | .hbm, ⟨15, _⟩ => ⟨S16384x2048, .f32⟩
  | .hbm, ⟨16, _⟩ => ⟨S1x2048, .f32⟩
  | .hbm, ⟨17, _⟩ => ⟨S16384x2048, .f32⟩
  | .hbm, ⟨18, _⟩ => ⟨S16384x2048, .f32⟩
  | .hbm, ⟨19, _⟩ => ⟨S16384x8, .f32⟩
  | .hbm, ⟨20, _⟩ => ⟨S16384x2, .f32⟩
  | .hbm, ⟨21, _⟩ => ⟨S16384x2, .i32⟩
  | .hbm, ⟨22, _⟩ => ⟨S_, .f32⟩
  | .hbm, ⟨23, _⟩ => ⟨S16384, .f32⟩
  | .hbm, ⟨24, _⟩ => ⟨S_, .f32⟩
  | .hbm, ⟨25, _⟩ => ⟨S16384, .f32⟩
  | .hbm, ⟨26, _⟩ => ⟨S16384, .f32⟩
  | .hbm, ⟨27, _⟩ => ⟨S16384x1, .f32⟩
  | .hbm, ⟨28, _⟩ => ⟨S16384x2, .f32⟩
  | .hbm, ⟨29, _⟩ => ⟨S16384x2, .f32⟩
  | .hbm, ⟨30, _⟩ => ⟨S16384x2, .f32⟩
  | .hbm, ⟨31, _⟩ => ⟨S_, .f32⟩
  | .hbm, ⟨32, _⟩ => ⟨S16384, .f32⟩
  | .hbm, ⟨33, _⟩ => ⟨S16384x1, .f32⟩
  | .hbm, ⟨34, _⟩ => ⟨S16384x2, .f32⟩
  | .hbm, ⟨35, _⟩ => ⟨S16384x2, .f32⟩
  | .hbm, ⟨36, _⟩ => ⟨S16384x2, .f32⟩
  | .hbm, ⟨37, _⟩ => ⟨S16384x4, .f32⟩
  | .hbm, ⟨38, _⟩ => ⟨S_, .i32⟩
  | .hbm, ⟨39, _⟩ => ⟨S_, .f32⟩
  | .hbm, ⟨40, _⟩ => ⟨S16384x128, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_values : Ref sig .tc := ⟨.hbm, 20, rfl⟩
abbrev main_indices : Ref sig .tc := ⟨.hbm, 21, rfl⟩
abbrev main_cst_2 : Ref sig .tc := ⟨.hbm, 22, rfl⟩
abbrev main_v14 : Ref sig .tc := ⟨.hbm, 23, rfl⟩
abbrev main_cst_3 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_4 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_c : Ref sig .tc := ⟨.hbm, 38, rfl⟩
abbrev main_call0_v0 : Ref sig .tc := ⟨.hbm, 39, rfl⟩
abbrev main_v27 : Ref sig .tc := ⟨.hbm, 40, rfl⟩

abbrev nD : Nat := 1
abbrev τ : Topo := Topo.v7x

variable {F : FTy → Type} [FloatOps F]
-- ==== Proof.RetStep.lean ====
/- THE RETENTION'S STEP ON ONE HEAD AND ONE CHUNK of 128 positions, as the kernel writes it on blocks of 128 by 128, and its
   reading at an index: the rotated rows (`rowsQ`, `rowsK`), the state after the chunk (`stepS`), the chunk's output
   (`stepO`). -/
module

public import proofs.«01_k».proof.Proof.Gen.KernelIdeal.Skeleton
public import Idealize.ShloMosaic.Lib.Pointwise

@[expose] public section

set_option maxRecDepth 16384

noncomputable section

namespace Cert.Proof.Ret

open Idealize.ShloMosaic.Pointwise Cert.KernelIdeal Cert.KernelIdeal.Gen Idealize.ShloMosaic Idealize.ShloMosaic.TcCoe

/-- A block of rows rotated by its positions' angles. -/
def rowsQ (cos sin x : FVec Ideal S128x128 .f32) : FVec Ideal S128x128 .f32 :=
  addf (mulf x (shapeCast S128x128 cos shapeCasts_S128x128_S128x128))
    (mulf (dynamicRotate 1 64#32 none x rotates_S128x128_d1) (shapeCast S128x128 sin shapeCasts_S128x128_S128x128))

/-- The same, scaled by one over the root of the head's width: the keys. -/
def rowsK (cos sin x : FVec Ideal S128x128 .f32) : FVec Ideal S128x128 .f32 :=
  mulf (rowsQ cos sin x) (broadcast S128x128 (Scalar.ofBits .f32 0x3DB504F3#32))

/-- The state after a chunk: the state before it, decayed, and the chunk's keys against its values. -/
def stepS (s : FVec Ideal S1x128x128 .f32) (k v cos sin : FVec Ideal S128x128 .f32) (kt : FVec Ideal S1x128x128 .f32)
    (cd : FVec Ideal S1x8x128 .f32) : FVec Ideal S1x128x128 .f32 :=
  shapeCast S1x128x128
    (addf
      (mulf (shapeCast S128x128 s shapeCasts_S1x128x128_S128x128)
        (broadcastTo S128x128 (extractStridedSlice S1x128 ![0, 0] (shapeCast S8x128 cd shapeCasts_S1x8x128_S8x128)
          slices_S8x128_o0_0_S1x128) broadcasts_S1x128_S128x128))
      (matmul dot_S128x128_S128x128_S128x128_0_0_1_1_n_n none
        (truncf .bf16 (mulf (rowsK cos sin k) (shapeCast S128x128 kt shapeCasts_S1x128x128_S128x128)) bitsLt_bf16_f32)
        (truncf .bf16 v bitsLt_bf16_f32) (constant S128x128 .f32 0x00000000#32)))
    shapeCasts_S128x128_S1x128x128

/-- What the chunk's rows see of each other. -/
def inn (q k v cos sin : FVec Ideal S128x128 .f32) (dec : FVec Ideal S1x128x128 .f32) : FVec Ideal S128x128 .f32 :=
  matmul dot_S128x128_S128x128_S128x128_1_0_0_1_n_n none
    (truncf .bf16 (mulf (matmul dot_S128x128_S128x128_S128x128_1_1_0_0_n_n none (truncf .bf16 (rowsQ cos sin q) bitsLt_bf16_f32)
        (truncf .bf16 (rowsK cos sin k) bitsLt_bf16_f32) (constant S128x128 .f32 0x00000000#32))
      (shapeCast S128x128 dec shapeCasts_S1x128x128_S128x128)) bitsLt_bf16_f32)
    (truncf .bf16 v bitsLt_bf16_f32) (constant S128x128 .f32 0x00000000#32)

/-- What they see of the state before the chunk. -/
def crs (s : FVec Ideal S1x128x128 .f32) (q cos sin : FVec Ideal S128x128 .f32) (qh : FVec Ideal S1x128x128 .f32) :
    FVec Ideal S128x128 .f32 :=
  matmul dot_S128x128_S128x128_S128x128_1_0_0_1_n_n none
    (truncf .bf16 (mulf (rowsQ cos sin q) (shapeCast S128x128 qh shapeCasts_S1x128x128_S128x128)) bitsLt_bf16_f32)
    (truncf .bf16 (shapeCast S128x128 s shapeCasts_S1x128x128_S128x128) bitsLt_bf16_f32) (constant S128x128 .f32 0x00000000#32)

/-- The chunk's output: the two together, over their root mean square, through the gate. -/
def stepO (s : FVec Ideal S1x128x128 .f32) (q k v g cos sin : FVec Ideal S128x128 .f32) (dec qh : FVec Ideal S1x128x128 .f32) :
    FVec Ideal S128x128 .bf16 :=
  k0_pay1 (inn q k v cos sin dec) (crs s q cos sin qh) g

/-- A rotated row at an index. -/
def rotAt (x : Fin 128 → EReal) (cos sin : Fin 128 → EReal) (d : Fin 128) : EReal :=
  x d * cos d + x ⟨(d.val + 64) % 128, Nat.mod_lt _ (by decide)⟩ * sin d

/-- The scale of the keys. -/
def scl : EReal := Ideal.ofBits FTy.f32 0x3DB504F3#32

theorem rowsQ_at (cos sin x : FVec Ideal S128x128 .f32) (i d : Fin 128) :
    rowsQ cos sin x (ix2 i d) = rotAt (fun d => x (ix2 i d)) (fun d => cos (ix2 i d)) (fun d => sin (ix2 i d)) d := by
  pointwise [rowsQ]
  rfl

theorem rowsK_at (cos sin x : FVec Ideal S128x128 .f32) (i d : Fin 128) :
    rowsK cos sin x (ix2 i d) = rotAt (fun d => x (ix2 i d)) (fun d => cos (ix2 i d)) (fun d => sin (ix2 i d)) d * scl := by
  rw [← rowsQ_at]
  pointwise [rowsK]
  rfl

theorem stepS_at (s : FVec Ideal S1x128x128 .f32) (k v cos sin : FVec Ideal S128x128 .f32) (kt : FVec Ideal S1x128x128 .f32)
    (cd : FVec Ideal S1x8x128 .f32) (a b : Fin 128) :
    stepS s k v cos sin kt cd (ix3 0 a b) = s (ix3 0 a b) * cd (ix3 0 0 b)
      + ∑ i : Fin 128, rowsK cos sin k (ix2 i a) * kt (ix3 0 i a) * v (ix2 i b) := by
  pointwise [stepS]

theorem stepO_at (s : FVec Ideal S1x128x128 .f32) (q k v g cos sin : FVec Ideal S128x128 .f32) (dec qh : FVec Ideal S1x128x128 .f32)
    (r b : Fin 128) : stepO s q k v g cos sin dec qh (ix2 r b)
      = (fun o : Fin 128 → EReal => o b * Ideal.rsqrt (Ideal.div (∑ l : Fin 128, o l * o l) (Ideal.ofBits FTy.f32 0x43000000#32)
          + Ideal.ofBits FTy.f32 0x358637BD#32) * (g (ix2 r b) * Ideal.logistic (g (ix2 r b))))
        (fun l => (∑ i : Fin 128, (∑ d : Fin 128, rowsQ cos sin q (ix2 r d) * rowsK cos sin k (ix2 i d)) * dec (ix3 0 r i) * v (ix2 i l))
          + ∑ d : Fin 128, rowsQ cos sin q (ix2 r d) * qh (ix3 0 r d) * s (ix3 0 d l)) := by
  pointwise [stepO, k0_pay1, inn, crs]

end Cert.Proof.Ret

end
-- ==== Proof.RetSpec.lean ====
/- THE RETENTION AS ONE FUNCTION of the projected array: its tables, the rotated queries and keys, the state of a head
   before each chunk of 128 positions, and the layer's output. -/
module

public import proofs.«01_k».proof.Proof.RetStep
public import Idealize.ShloMosaic.Lib.Pointwise

@[expose] public section

set_option maxRecDepth 16384

noncomputable section

namespace Cert.Proof.Ret

open Idealize.ShloMosaic.Pointwise Cert.KernelIdeal Idealize.ShloMosaic Idealize.ShloMosaic.TcCoe

/-- A natural number as a float. -/
def sf (n : ℕ) : EReal := FloatOps.sitofp (F := Ideal) FTy.f32 (BitVec.ofNat 32 n)

/-- The logarithm of a head's decay. -/
def lg (h : ℕ) : EReal := Ideal.log1p (-Ideal.exp (Ideal.ofBits FTy.f32 1060205080#32 * (Ideal.ofBits FTy.f32 3231711232#32 - sf h)))

/-- The rotation's angle at a position. -/
def ang (p d : ℕ) : EReal :=
  sf p * Ideal.pow (Ideal.ofBits FTy.f32 1176256512#32) (Ideal.div (-sf d) (Ideal.ofBits FTy.f32 1115684864#32))

/-- The angles' cosines over a head's 128 columns, and the sines, the first half negated. -/
def cosT (p : ℕ) (d : Fin 128) : EReal := if d.val < 64 then Ideal.cos (ang p d.val) else Ideal.cos (ang p (d.val - 64))
def sinT (p : ℕ) (d : Fin 128) : EReal := if d.val < 64 then -Ideal.sin (ang p d.val) else Ideal.sin (ang p (d.val - 64))

/-- The decays: from the state to row `i`, from row `i` to the state after the chunk, over a whole chunk, and from row `k`
    to row `i`. -/
def qhT (h : Fin 8) (i : Fin 128) : EReal := Ideal.exp ((sf i.val + 1) * lg h.val)
def ktT (h : Fin 8) (i : Fin 128) : EReal := Ideal.exp ((Ideal.ofBits FTy.f32 1123942400#32 - sf i.val) * lg h.val)
def cdT (h : Fin 8) : EReal := Ideal.exp (Ideal.ofBits FTy.f32 1124073472#32 * lg h.val)
def inT (h : Fin 8) (i k : Fin 128) : EReal :=
  if 0 ≤ sf i.val - sf k.val then Ideal.exp (max (sf i.val - sf k.val) 0 * lg h.val) else 0

/-- The row of position `i` of chunk `n` of sequence `b`. -/
abbrev row (b n : ℕ) (i : Fin 128) : Fin 16384 := ⟨(4096 * b + 128 * n + i.val) % 16384, Nat.mod_lt _ (by decide)⟩

variable (z : FVec Ideal S16384x17408 .f32)

/-- The column of head `h`'s entry `d` in the `o`-th of the array's parts of 1024 columns. -/
abbrev zc (o : Fin 4) (h : Fin 8) (d : Fin 128) : Fin 17408 := ⟨1024 * o.val + 128 * h.val + d.val, by omega⟩

def qz (b n : ℕ) (i : Fin 128) (h : Fin 8) (d : Fin 128) : EReal :=
  rotAt (fun d => z (ix2 (row b n i) (zc 0 h d))) (cosT (128 * n + i.val)) (sinT (128 * n + i.val)) d
def kz (b n : ℕ) (i : Fin 128) (h : Fin 8) (d : Fin 128) : EReal :=
  rotAt (fun d => z (ix2 (row b n i) (zc 1 h d))) (cosT (128 * n + i.val)) (sinT (128 * n + i.val)) d * scl
def vz (b n : ℕ) (i : Fin 128) (h : Fin 8) (d : Fin 128) : EReal := z (ix2 (row b n i) (zc 2 h d))
def gz (b n : ℕ) (i : Fin 128) (h : Fin 8) (d : Fin 128) : EReal := z (ix2 (row b n i) (zc 3 h d))

/-- A chunk's own part of the next state. -/
def dst (b n : ℕ) (h : Fin 8) (a c : Fin 128) : EReal := ∑ i : Fin 128, kz z b n i h a * ktT h i * vz z b n i h c

/-- The state before chunk `n`. -/
def st (b : ℕ) : ℕ → Fin 8 → Fin 128 → Fin 128 → EReal
  | 0 => fun _ _ _ => 0
  | n + 1 => fun h a c => st b n h a c * cdT h + dst z b n h a c

/-- A row's output before its scaling: the chunk's own rows, and the state before it. -/
def oz (b n : ℕ) (i : Fin 128) (h : Fin 8) (l : Fin 128) : EReal :=
  (∑ k : Fin 128, (∑ d : Fin 128, qz z b n i h d * kz z b n k h d) * inT h i k * vz z b n k h l)
    + ∑ d : Fin 128, qz z b n i h d * qhT h i * st z b n h d l

/-- The row over its root mean square, through the gate. -/
def fz (b n : ℕ) (i : Fin 128) (h : Fin 8) (l : Fin 128) : EReal :=
  oz z b n i h l * Ideal.rsqrt (Ideal.div (∑ l : Fin 128, oz z b n i h l * oz z b n i h l) (Ideal.ofBits FTy.f32 0x43000000#32)
    + Ideal.ofBits FTy.f32 0x358637BD#32) * (gz z b n i h l * Ideal.logistic (gz z b n i h l))

/-- The layer's output. -/
def G : FVec Ideal S16384x1024 .bf16 := fun j =>
  fz z ((j 0).val / 4096) ((j 0).val % 4096 / 128) ⟨(j 0).val % 128, Nat.mod_lt _ (by decide)⟩
    ⟨(j 1).val / 128, by have : (j 1).val < 1024 := (j 1).isLt; omega⟩ ⟨(j 1).val % 128, Nat.mod_lt _ (by decide)⟩

end Cert.Proof.Ret

end
-- ==== Proof.RetRefArr.lean ====
/- THE REFERENCE RETENTION'S ARRAYS at an index: the rotated queries and keys, the chunks' parts of the state and of the output, and
   what its buffers hold before the loop over the chunks and after it. -/
module

public import proofs.«01_k».proof.Proof.RetSpec
public import proofs.«01_k».proof.Proof.Gen.ReferenceIdeal.Run
public import Idealize.ShloMosaic.Lib.Pointwise
public import Idealize.ShloMosaic.Lib.Claim

@[expose] public section

set_option maxRecDepth 16384

noncomputable section

namespace Cert.Proof.RetRef

open Idealize.ShloMosaic.Pointwise Cert.ReferenceIdeal Cert.ReferenceIdeal.Gen Cert.ReferenceIdeal.Value Idealize.ShloMosaic Idealize.ShloMosaic.TcCoe Idealize.SL.Sem Idealize.ShloMosaic.StableHlo

open Cert.Proof.Ret (rotAt scl sf lg ang cosT sinT qhT ktT cdT inT row zc qz kz vz gz dst st oz fz G)

variable (z : FVec Ideal S16384x17408 .f32)

/-- The four parts of the argument by heads. -/
def col0 : FVec Ideal S4x4096x8x128 .f32 := shapeCast S4x4096x8x128 (extractStridedSlice S16384x1024 ![0, 0] z slices_S16384x17408_S16384x1024_0_0) shapeCasts_S16384x1024_S4x4096x8x128
def col1 : FVec Ideal S4x4096x8x128 .f32 := shapeCast S4x4096x8x128 (extractStridedSlice S16384x1024 ![0, 1024] z slices_S16384x17408_S16384x1024_0_1024) shapeCasts_S16384x1024_S4x4096x8x128
def col2 : FVec Ideal S4x4096x8x128 .f32 := shapeCast S4x4096x8x128 (extractStridedSlice S16384x1024 ![0, 2048] z slices_S16384x17408_S16384x1024_0_2048) shapeCasts_S16384x1024_S4x4096x8x128
def col3 : FVec Ideal S4x4096x8x128 .f32 := shapeCast S4x4096x8x128 (extractStridedSlice S16384x1024 ![0, 3072] z slices_S16384x17408_S16384x1024_0_3072) shapeCasts_S16384x1024_S4x4096x8x128

/-- The angles' cosines and sines. -/
def angA : FVec Ideal S4096x64 .f32 :=
  mulf (broadcastInDim S4096x64 ![0, 1] bcast_S4096x1_S4096x64_0_1 (broadcastInDim S4096x1 ![0] bcast_S4096_S4096x1_0 (sitofp .f32 (iotaInDim S4096 32 0))))
    (broadcastInDim S4096x64 ![0, 1] bcast_S1x64_S4096x64_0_1 (broadcastInDim S1x64 ![1] bcast_S64_S1x64_1
      (Host.powf (broadcastInDim S64 ![] bcast_S_S64 (constant S_ .f32 0x461C4000#32))
        (Host.divf (Host.negf (sitofp .f32 (iotaInDim S64 32 0))) (broadcastInDim S64 ![] bcast_S_S64 (constant S_ .f32 0x42800000#32))))))
def cosA : FVec Ideal S4x4096x8x64 .f32 := broadcastInDim S4x4096x8x64 ![0, 1, 2, 3] bcast_S1x4096x1x64_S4x4096x8x64_0_1_2_3
  (broadcastInDim S1x4096x1x64 ![1, 3] bcast_S4096x64_S1x4096x1x64_1_3 (Host.cos angA))
def sinA : FVec Ideal S4x4096x8x64 .f32 := broadcastInDim S4x4096x8x64 ![0, 1, 2, 3] bcast_S1x4096x1x64_S4x4096x8x64_0_1_2_3
  (broadcastInDim S1x4096x1x64 ![1, 3] bcast_S4096x64_S1x4096x1x64_1_3 (Host.sin angA))

def lo (x : FVec Ideal S4x4096x8x128 .f32) : FVec Ideal S4x4096x8x64 .f32 := extractStridedSlice S4x4096x8x64 ![0, 0, 0, 0] x slices_S4x4096x8x128_S4x4096x8x64_0_0_0_0
def hi (x : FVec Ideal S4x4096x8x128 .f32) : FVec Ideal S4x4096x8x64 .f32 := extractStridedSlice S4x4096x8x64 ![0, 0, 0, 64] x slices_S4x4096x8x128_S4x4096x8x64_0_0_0_64

/-- The rotation. -/
def rotA (x : FVec Ideal S4x4096x8x128 .f32) : FVec Ideal S4x4096x8x128 .f32 :=
  concatenate S4x4096x8x128 3 [⟨S4x4096x8x64, subf (mulf (lo x) cosA) (mulf (hi x) sinA)⟩, ⟨S4x4096x8x64, addf (mulf (hi x) cosA) (mulf (lo x) sinA)⟩]
    concatenates_S4x4096x8x64_S4x4096x8x64_S4x4096x8x128_d3

/-- Positions by chunks. -/
def chunkA (x : FVec Ideal S4x4096x8x128 .f32) : FVec Ideal S4x32x128x8x128 .f32 := shapeCast S4x32x128x8x128 x shapeCasts_S4x4096x8x128_S4x32x128x8x128

def keyA : FVec Ideal S4x32x128x8x128 .f32 := mulf (chunkA (rotA (col1 z))) (broadcastInDim S4x32x128x8x128 ![] bcast_S_S4x32x128x8x128 (constant S_ .f32 0x3DB504F3#32))

/-- The decays' logarithms and the positions of a chunk. -/
def lgA : FVec Ideal S8 .f32 :=
  Host.log1p (Host.negf (Host.exp (mulf (broadcastInDim S8 ![] bcast_S_S8 (constant S_ .f32 0x3F317218#32))
    (subf (broadcastInDim S8 ![] bcast_S_S8 (constant S_ .f32 0xC0A00000#32)) (sitofp .f32 (iotaInDim S8 32 0))))))
def posA : FVec Ideal S128 .f32 := sitofp .f32 (iotaInDim S128 32 0)

def relA : FVec Ideal S128x128 .f32 :=
  subf (broadcastInDim S128x128 ![0, 1] bcast_S128x1_S128x128_0_1 (broadcastInDim S128x1 ![0] bcast_S128_S128x1_0 posA))
    (broadcastInDim S128x128 ![0, 1] bcast_S1x128_S128x128_0_1 (broadcastInDim S1x128 ![1] bcast_S128_S1x128_1 posA))
def inA : FVec Ideal S8x128x128 .f32 :=
  select (broadcastInDim S8x128x128 ![1, 2] bcast_S128x128_S8x128x128_1_2
      (cmpf .oge relA (broadcastInDim S128x128 ![] bcast_S_S128x128 (constant S_ .f32 0x00000000#32))))
    (Host.exp (mulf (broadcastInDim S8x128x128 ![0, 1, 2] bcast_S1x128x128_S8x128x128_0_1_2 (broadcastInDim S1x128x128 ![1, 2] bcast_S128x128_S1x128x128_1_2
        (maximumf relA (broadcastInDim S128x128 ![] bcast_S_S128x128 (constant S_ .f32 0x00000000#32)))))
      (broadcastInDim S8x128x128 ![0, 1, 2] bcast_S8x1x1_S8x128x128_0_1_2 (broadcastInDim S8x1x1 ![0] bcast_S8_S8x1x1_0 lgA))))
    (broadcastInDim S8x128x128 ![] bcast_S_S8x128x128 (constant S_ .f32 0x00000000#32))
def ktA : FVec Ideal S128x8 .f32 :=
  Host.exp (mulf (broadcastInDim S128x8 ![0, 1] bcast_S128x1_S128x8_0_1 (broadcastInDim S128x1 ![0] bcast_S128_S128x1_0
      (subf (broadcastInDim S128 ![] bcast_S_S128 (constant S_ .f32 0x42FE0000#32)) posA)))
    (broadcastInDim S128x8 ![0, 1] bcast_S1x8_S128x8_0_1 (broadcastInDim S1x8 ![1] bcast_S8_S1x8_1 lgA)))

/-- The chunks' parts of the state. -/
def dstA : FVec Ideal S32x4x8x128x128 .f32 :=
  Host.dotGeneral dot_S4x32x128x8x128_S4x32x128x8x128_S32x4x8x128x128_2_2_4_4_103_103 none
    (mulf (keyA z) (broadcastInDim S4x32x128x8x128 ![0, 1, 2, 3, 4] bcast_S1x1x128x8x1_S4x32x128x8x128_0_1_2_3_4
      (broadcastInDim S1x1x128x8x1 ![2, 3, 4] bcast_S128x8x1_S1x1x128x8x1_2_3_4 (broadcastInDim S128x8x1 ![0, 1] bcast_S128x8_S128x8x1_0_1 ktA))))
    (chunkA (col2 z))

/-- The chunk's own part of the output. -/
def innA : FVec Ideal S4x32x128x8x128 .f32 :=
  transpose S4x32x128x8x128 [0, 1, 4, 2, 3]
    (Host.dotGeneral dot_S4x32x128x8x128_S4x32x8x128x128_S4x32x8x128x128_2_4_4_3_013_012 none (chunkA (col2 z))
      (mulf (Host.dotGeneral dot_S4x32x128x8x128_S4x32x128x8x128_S4x32x8x128x128_4_4_2_2_013_013 none (chunkA (rotA (col0 z))) (keyA z))
        (broadcastInDim S4x32x8x128x128 ![0, 1, 2, 3, 4] bcast_S1x1x8x128x128_S4x32x8x128x128_0_1_2_3_4 (broadcastInDim S1x1x8x128x128 ![2, 3, 4] bcast_S8x128x128_S1x1x8x128x128_2_3_4 inA))))
    transposes_S4x32x8x128x128_S4x32x128x8x128_0_1_4_2_3

/-- The output from the buffers the rest of it reads. -/
def sumA (pos : FVec Ideal S128 .f32) (lgs : FVec Ideal S8 .f32) (q inn : FVec Ideal S4x32x128x8x128 .f32) (S : FVec Ideal S32x4x8x128x128 .f32) : FVec Ideal S4x4096x8x128 .f32 :=
  shapeCast S4x4096x8x128 (addf inn (transpose S4x32x128x8x128 [0, 1, 4, 2, 3]
    (Host.dotGeneral dot_S32x4x8x128x128_S4x32x128x8x128_S4x32x8x128x128_3_4_4_2_102_013 none S
      (mulf q (broadcastInDim S4x32x128x8x128 ![0, 1, 2, 3, 4] bcast_S1x1x128x8x1_S4x32x128x8x128_0_1_2_3_4
        (broadcastInDim S1x1x128x8x1 ![2, 3, 4] bcast_S128x8x1_S1x1x128x8x1_2_3_4 (broadcastInDim S128x8x1 ![0, 1] bcast_S128x8_S128x8x1_0_1
          (Host.exp (mulf (broadcastInDim S128x8 ![0, 1] bcast_S128x1_S128x8_0_1 (broadcastInDim S128x1 ![0] bcast_S128_S128x1_0
              (addf pos (broadcastInDim S128 ![] bcast_S_S128 (constant S_ .f32 0x3F800000#32)))))
            (broadcastInDim S128x8 ![0, 1] bcast_S1x8_S128x8_0_1 (broadcastInDim S1x8 ![1] bcast_S8_S1x8_1 lgs)))))))))
    transposes_S4x32x8x128x128_S4x32x128x8x128_0_1_4_2_3)) shapeCasts_S4x32x128x8x128_S4x4096x8x128
def rmsA (o : FVec Ideal S4x4096x8x128 .f32) : FVec Ideal S4x4096x8x128 .f32 :=
  mulf o (broadcastInDim S4x4096x8x128 ![0, 1, 2, 3] bcast_S4x4096x8x1_S4x4096x8x128_0_1_2_3 (Host.rsqrt (addf
    (Host.divf (broadcastInDim S4x4096x8x1 ![0, 1, 2] bcast_S4x4096x8_S4x4096x8x1_0_1_2
      (Host.reduceAdd (mulf o o) (constant S_ .f32 0x00000000#32) reducesTo_S4x4096x8x128_S4x4096x8_d3 h_S_))
      (broadcastInDim S4x4096x8x1 ![] bcast_S_S4x4096x8x1 (constant S_ .f32 0x43000000#32)))
    (broadcastInDim S4x4096x8x1 ![] bcast_S_S4x4096x8x1 (constant S_ .f32 0x358637BD#32)))))
def siluA (g : FVec Ideal S4x4096x8x128 .f32) : FVec Ideal S4x4096x8x128 .f32 :=
  mulf g (Host.divf (broadcastInDim S4x4096x8x128 ![] bcast_S_S4x4096x8x128 (constant S_ .f32 0x3F800000#32))
    (addf (broadcastInDim S4x4096x8x128 ![] bcast_S_S4x4096x8x128 (constant S_ .f32 0x3F800000#32)) (Host.exp (Host.negf g))))
def outA (o g : FVec Ideal S4x4096x8x128 .f32) : FVec Ideal S16384x1024 .bf16 :=
  truncf .bf16 (shapeCast S16384x1024 (mulf (rmsA o) (siluA g)) shapeCasts_S4x4096x8x128_S16384x1024) bitsLt_bf16_f32

section
variable (x : FVec Ideal S4x4096x8x128 .f32) (b : Fin 4) (n : Fin 32) (i k : Fin 128) (h : Fin 8) (d e : Fin 128) (t : Fin 4096) (y : EReal)

theorem at_congr (p q : Fin 4096) (hpq : p.val = q.val) : x (ix4 b p h d) = x (ix4 b q h d) := by rw [Fin.ext hpq]
theorem z_congr (p p' : Fin 16384) (q q' : Fin 17408) (hp : p.val = p'.val) (hq : q.val = q'.val) : z (ix2 p q) = z (ix2 p' q') := by
  rw [Fin.ext hp, Fin.ext hq]
theorem chunk_apply : chunkA x (ix5 b n i h d) = x (ix4 b ⟨128 * n.val + i.val, by omega⟩ h d) := by
  unfold chunkA
  pointwise
  exact at_congr _ _ _ _ _ _ (by simp only; omega)
theorem col0_apply : col0 z (ix4 b t h d) = z (ix2 ⟨4096 * b.val + t.val, by omega⟩ (zc 0 h d)) := by
  unfold col0
  pointwise
  exact z_congr _ _ _ _ _ (by simp only; omega) (by simp only [zc, Fin.val_zero]; omega)
theorem col1_apply : col1 z (ix4 b t h d) = z (ix2 ⟨4096 * b.val + t.val, by omega⟩ (zc 1 h d)) := by
  unfold col1
  pointwise
  exact z_congr _ _ _ _ _ (by simp only; omega) (by show _ = 1024 * 1 + _ + _; simp only; omega)
theorem col2_apply : col2 z (ix4 b t h d) = z (ix2 ⟨4096 * b.val + t.val, by omega⟩ (zc 2 h d)) := by
  unfold col2
  pointwise
  exact z_congr _ _ _ _ _ (by simp only; omega) (by show _ = 1024 * 2 + _ + _; simp only; omega)
theorem col3_apply : col3 z (ix4 b t h d) = z (ix2 ⟨4096 * b.val + t.val, by omega⟩ (zc 3 h d)) := by
  unfold col3
  pointwise
  exact z_congr _ _ _ _ _ (by simp only; omega) (by show _ = 1024 * 3 + _ + _; simp only; omega)
theorem ang_apply (d : Fin 64) : angA (ix2 t d) = ang t.val d.val := by
  unfold angA
  pointwise
  rfl
theorem d_congr (p q : Fin 128) (hpq : p.val = q.val) : x (ix4 b t h p) = x (ix4 b t h q) := by rw [Fin.ext hpq]
theorem rot_apply : rotA x (ix4 b t h d) = rotAt (fun d => x (ix4 b t h d)) (cosT t.val) (sinT t.val) d := by
  unfold rotA lo hi cosA sinA
  pointwise [ang_apply]
  unfold rotAt cosT sinT
  by_cases hd : d.val < 64
  · rw [dif_pos hd, if_pos hd, if_pos hd, mul_neg, ← sub_eq_add_neg, d_congr x b h t ⟨64 + d.val, _⟩ ⟨(d.val + 64) % 128, _⟩ (by simp only; omega)]
  · rw [dif_neg hd, if_neg hd, if_neg hd, d_congr x b h t ⟨64 + (d.val - 64), _⟩ d (by simp only; omega),
      d_congr x b h t ⟨d.val - 64, _⟩ ⟨(d.val + 64) % 128, _⟩ (by simp only; omega)]
theorem lg_apply : lgA (ix1 h) = lg h.val := by
  unfold lgA
  pointwise
  rfl
theorem in_apply : inA (ix3 h i k) = inT h i k := by
  unfold inA relA posA
  pointwise [lg_apply]
  rfl
theorem kt_apply : ktA (ix2 i h) = ktT h i := by
  unfold ktA posA
  pointwise [lg_apply]
  rfl
theorem row_eq (hb : 4096 * b.val + (128 * n.val + i.val) < 16384) : (⟨4096 * b.val + (128 * n.val + i.val), hb⟩ : Fin 16384) = row b.val n.val i :=
  Fin.ext (by show _ = (4096 * b.val + 128 * n.val + i.val) % 16384; simp only; omega)
theorem qry_apply : chunkA (rotA (col0 z)) (ix5 b n i h d) = qz z b.val n.val i h d := by
  rw [chunk_apply, rot_apply]
  simp only [col0_apply, row_eq]
  rfl

theorem scale_apply (L : FVec Ideal S4x32x128x8x128 .f32) :
    (mulf L (broadcastInDim S4x32x128x8x128 ![] bcast_S_S4x32x128x8x128 (constant S_ .f32 0x3DB504F3#32)) : FVec Ideal S4x32x128x8x128 .f32) (ix5 b n i h d)
      = L (ix5 b n i h d) * scl := by
  pointwise
  rfl
theorem dst_gen (L R : FVec Ideal S4x32x128x8x128 .f32) (T : FVec Ideal S128x8 .f32) :
    (Host.dotGeneral dot_S4x32x128x8x128_S4x32x128x8x128_S32x4x8x128x128_2_2_4_4_103_103 none
      (mulf L (broadcastInDim S4x32x128x8x128 ![0, 1, 2, 3, 4] bcast_S1x1x128x8x1_S4x32x128x8x128_0_1_2_3_4
        (broadcastInDim S1x1x128x8x1 ![2, 3, 4] bcast_S128x8x1_S1x1x128x8x1_2_3_4 (broadcastInDim S128x8x1 ![0, 1] bcast_S128x8_S128x8x1_0_1 T))))
      R : FVec Ideal S32x4x8x128x128 .f32) (ix5 n b h d e) = ∑ i : Fin 128, L (ix5 b n i h d) * T (ix2 i h) * R (ix5 b n i h e) := by
  pointwise
theorem inn_gen (Q K V : FVec Ideal S4x32x128x8x128 .f32) (T : FVec Ideal S8x128x128 .f32) :
    (transpose S4x32x128x8x128 [0, 1, 4, 2, 3]
    (Host.dotGeneral dot_S4x32x128x8x128_S4x32x8x128x128_S4x32x8x128x128_2_4_4_3_013_012 none V
      (mulf (Host.dotGeneral dot_S4x32x128x8x128_S4x32x128x8x128_S4x32x8x128x128_4_4_2_2_013_013 none Q K)
        (broadcastInDim S4x32x8x128x128 ![0, 1, 2, 3, 4] bcast_S1x1x8x128x128_S4x32x8x128x128_0_1_2_3_4 (broadcastInDim S1x1x8x128x128 ![2, 3, 4] bcast_S8x128x128_S1x1x8x128x128_2_3_4 T))))
    transposes_S4x32x8x128x128_S4x32x128x8x128_0_1_4_2_3 : FVec Ideal S4x32x128x8x128 .f32) (ix5 b n i h e)
    = ∑ k : Fin 128, V (ix5 b n k h e) * ((∑ d : Fin 128, Q (ix5 b n i h d) * K (ix5 b n k h d)) * T (ix3 h i k)) := by
  pointwise

theorem key_apply : keyA z (ix5 b n i h d) = kz z b.val n.val i h d := by
  refine (scale_apply b n i h d _).trans ?_
  rw [chunk_apply, rot_apply]
  simp only [col1_apply, row_eq]
  rfl
theorem val_apply : chunkA (col2 z) (ix5 b n i h d) = vz z b.val n.val i h d := by
  rw [chunk_apply, col2_apply, row_eq]
  rfl
theorem dst_apply : dstA z (ix5 n b h d e) = dst z b.val n.val h d e := by
  refine (dst_gen b n h d e _ _ _).trans ?_
  simp only [key_apply, kt_apply, val_apply]
  rfl
theorem inn_apply : innA z (ix5 b n i h e)
    = ∑ k : Fin 128, (∑ d : Fin 128, qz z b.val n.val i h d * kz z b.val n.val k h d) * inT h i k * vz z b.val n.val k h e := by
  refine (inn_gen b n i h e _ _ _ _).trans ?_
  simp only [key_apply, qry_apply, in_apply, val_apply]
  exact Finset.sum_congr rfl fun k _ => mul_comm _ _

theorem cross_gen (q inn : FVec Ideal S4x32x128x8x128 .f32) (S : FVec Ideal S32x4x8x128x128 .f32) :
    (addf inn (transpose S4x32x128x8x128 [0, 1, 4, 2, 3]
    (Host.dotGeneral dot_S32x4x8x128x128_S4x32x128x8x128_S4x32x8x128x128_3_4_4_2_102_013 none S
      (mulf q (broadcastInDim S4x32x128x8x128 ![0, 1, 2, 3, 4] bcast_S1x1x128x8x1_S4x32x128x8x128_0_1_2_3_4
        (broadcastInDim S1x1x128x8x1 ![2, 3, 4] bcast_S128x8x1_S1x1x128x8x1_2_3_4 (broadcastInDim S128x8x1 ![0, 1] bcast_S128x8_S128x8x1_0_1
          (Host.exp (mulf (broadcastInDim S128x8 ![0, 1] bcast_S128x1_S128x8_0_1 (broadcastInDim S128x1 ![0] bcast_S128_S128x1_0
              (addf posA (broadcastInDim S128 ![] bcast_S_S128 (constant S_ .f32 0x3F800000#32)))))
            (broadcastInDim S128x8 ![0, 1] bcast_S1x8_S128x8_0_1 (broadcastInDim S1x8 ![1] bcast_S8_S1x8_1 lgA)))))))))
    transposes_S4x32x8x128x128_S4x32x128x8x128_0_1_4_2_3) : FVec Ideal S4x32x128x8x128 .f32) (ix5 b n i h e)
    = inn (ix5 b n i h e) + ∑ d : Fin 128, q (ix5 b n i h d) * qhT h i * S (ix5 n b h d e) := by
  unfold posA
  pointwise [lg_apply]
  refine congrArg _ (Finset.sum_congr rfl fun k _ => ?_)
  rw [mul_comm]
  rfl
theorem unchunk_apply (x : FVec Ideal S4x32x128x8x128 .f32) : shapeCast S4x4096x8x128 x shapeCasts_S4x32x128x8x128_S4x4096x8x128 (ix4 b t h d)
    = x (ix5 b ⟨t.val / 128, by omega⟩ ⟨t.val % 128, by omega⟩ h d) := by
  pointwise
theorem rms_apply : rmsA x (ix4 b t h d) = x (ix4 b t h d) * Ideal.rsqrt (Ideal.div (∑ l : Fin 128, x (ix4 b t h l) * x (ix4 b t h l)) (Ideal.ofBits FTy.f32 0x43000000#32)
    + Ideal.ofBits FTy.f32 0x358637BD#32) := by
  unfold rmsA
  pointwise
theorem silu_apply : siluA x (ix4 b t h d) = x (ix4 b t h d) * Ideal.logistic (x (ix4 b t h d)) := by
  unfold siluA
  pointwise
  rfl
theorem unhead_apply (r : Fin 16384) (l : Fin 1024) : shapeCast S16384x1024 x shapeCasts_S4x4096x8x128_S16384x1024 (ix2 r l)
    = x (ix4 ⟨r.val / 4096, by omega⟩ ⟨r.val % 4096, by omega⟩ ⟨l.val / 128, by omega⟩ ⟨l.val % 128, by omega⟩) := by
  pointwise

end

variable (m : (ℓ : Loc nD τ sig) → Buf (Elt Ideal) ℓ) (ρ : Dev nD → PrngReg)
abbrev Zr (c : Dev nD) : FVec Ideal S16384x17408 .f32 := m (c.tc.loc main_arg0)

set_option maxHeartbeats 4000000 in
/-- Before the loop: the gate's columns. -/
theorem entry_v7 (c : Dev nD) :
    (entryContents preI m c (Proc.devRef .tc main_v7) : FVec Ideal S4x4096x8x128 .f32) = col3 (Zr m c) := by
  simp only [entryContents, afterL_eq_after_flatten, preI, hostOps0, hostOps0_1, hostOps0_2, List.flatten_cons, List.flatten_nil, List.cons_append, List.nil_append, List.append_nil]
  after_reads_simp
  rfl
set_option maxHeartbeats 4000000 in
/-- Before the loop: the rotated queries. -/
theorem entry_v76 (c : Dev nD) :
    (entryContents preI m c (Proc.devRef .tc main_v76) : FVec Ideal S4x32x128x8x128 .f32) = chunkA (rotA (col0 (Zr m c))) := by
  simp only [entryContents, afterL_eq_after_flatten, preI, hostOps0, hostOps0_1, hostOps0_2, List.flatten_cons, List.flatten_nil, List.cons_append, List.nil_append, List.append_nil]
  after_reads_simp
  rfl
set_option maxHeartbeats 4000000 in
/-- Before the loop: the chunks' own parts of the output. -/
theorem entry_v86 (c : Dev nD) :
    (entryContents preI m c (Proc.devRef .tc main_v86) : FVec Ideal S4x32x128x8x128 .f32) = innA (Zr m c) := by
  simp only [entryContents, afterL_eq_after_flatten, preI, hostOps0, hostOps0_1, hostOps0_2, List.flatten_cons, List.flatten_nil, List.cons_append, List.nil_append, List.append_nil]
  after_reads_simp
  rfl
set_option maxHeartbeats 4000000 in
/-- Before the loop: the decays' logarithms. -/
theorem entry_v58 (c : Dev nD) :
    (entryContents preI m c (Proc.devRef .tc main_v58) : FVec Ideal S8 .f32) = lgA := by
  simp only [entryContents, afterL_eq_after_flatten, preI, hostOps0, hostOps0_1, hostOps0_2, List.flatten_cons, List.flatten_nil, List.cons_append, List.nil_append, List.append_nil]
  after_reads_simp
  rfl
set_option maxHeartbeats 4000000 in
/-- Before the loop: the positions. -/
theorem entry_v59 (c : Dev nD) :
    (entryContents preI m c (Proc.devRef .tc main_v59) : FVec Ideal S128 .f32) = posA := by
  simp only [entryContents, afterL_eq_after_flatten, preI, hostOps0, hostOps0_1, hostOps0_2, List.flatten_cons, List.flatten_nil, List.cons_append, List.nil_append, List.append_nil]
  after_reads_simp
  rfl
set_option maxHeartbeats 4000000 in
/-- Before the loop: the chunks' parts of the state. -/
theorem entry_v106_0 (c : Dev nD) :
    (entryContents preI m c (Proc.devRef .tc main_v106_0) : FVec Ideal S32x4x8x128x128 .f32) = dstA (Zr m c) := by
  simp only [entryContents, afterL_eq_after_flatten, preI, hostOps0, hostOps0_1, hostOps0_2, List.flatten_cons, List.flatten_nil, List.cons_append, List.nil_append, List.append_nil]
  after_reads_simp
  rfl
set_option maxHeartbeats 4000000 in
/-- Before the loop: the decay over a chunk. -/
theorem entry_v106_1 (c : Dev nD) :
    (entryContents preI m c (Proc.devRef .tc main_v106_1) : FVec Ideal S1x8x1x1 .f32) = broadcastInDim S1x8x1x1 ![1] bcast_S8_S1x8x1x1_1 (Host.exp (mulf (broadcastInDim S8 ![] bcast_S_S8 (constant S_ .f32 0x43000000#32)) lgA)) := by
  simp only [entryContents, afterL_eq_after_flatten, preI, hostOps0, hostOps0_1, hostOps0_2, List.flatten_cons, List.flatten_nil, List.cons_append, List.nil_append, List.append_nil]
  after_reads_simp
  rfl
set_option maxHeartbeats 4000000 in
/-- Before the loop: the state. -/
theorem entry_v106_3 (c : Dev nD) :
    (entryContents preI m c (Proc.devRef .tc main_v106_3) : FVec Ideal S4x8x128x128 .f32) = (broadcastInDim S4x8x128x128 ![] bcast_S_S4x8x128x128 (constant S_ .f32 0x00000000#32) : FVec Ideal S4x8x128x128 .f32) := by
  simp only [entryContents, afterL_eq_after_flatten, preI, hostOps0, hostOps0_1, hostOps0_2, List.flatten_cons, List.flatten_nil, List.cons_append, List.nil_append, List.append_nil]
  after_reads_simp
  rfl

set_option maxHeartbeats 4000000 in
/-- After the loop: the output from the buffers it reads. -/
theorem post_v136 (V : Valuation τ sig (Elt Ideal)) :
    (afterL postI V (Proc.devRef .tc main_v136) : FVec Ideal S16384x1024 .bf16)
      = outA (sumA (V (Proc.devRef .tc main_v59)) (V (Proc.devRef .tc main_v58)) (V (Proc.devRef .tc main_v76)) (V (Proc.devRef .tc main_v86)) (V (Proc.devRef .tc main_v106_4)))
          (V (Proc.devRef .tc main_v7)) := by
  simp only [afterL_eq_after_flatten, postI, hostOps0_3, hostOps0_4, hostOps0_5, List.flatten_cons, List.flatten_nil, List.cons_append, List.nil_append, List.append_nil]
  after_reads_simp
  rfl

end Cert.Proof.RetRef

end
-- ==== Proof.RetBlock.lean ====
module

public import proofs.«01_k».proof.Proof.RetStep
public import proofs.«01_k».proof.Proof.Gen.KernelIdeal.Value
public import Idealize.ShloMosaic.Lib.Pipeline.ValueKit
public import Idealize.ShloMosaic.Lib.Pipeline.ReadBack

@[expose] public section

set_option maxRecDepth 16384

noncomputable section

namespace Cert.Proof.Ret

open Idealize.ShloMosaic.Pointwise Cert.KernelIdeal Cert.KernelIdeal.Gen Cert.KernelIdeal.Value Idealize.ShloMosaic Idealize.ShloMosaic.TcCoe Idealize.SL.Sem

variable (m : (ℓ : Loc nD τ sig) → Buf (Elt Ideal) ℓ) (ρ : Dev nD → PrngReg)

/-- Row `i` of chunk `ci` of a block of 512 rows; column `d` of head `h`. -/
abbrev rw (ci : Fin 4) (i : Fin 128) : Fin 512 := ⟨128 * ci.val + i.val, by omega⟩
abbrev cl (h : Fin 8) (d : Fin 128) : Fin 1024 := ⟨128 * h.val + d.val, by omega⟩

/-- Chunk `ci`'s rows at head `h`'s columns; the positions' rows; one head of a stack of eight. -/
def ldM (x : FVec Ideal S512x1024 .f32) (ci : Fin 4) (h : Fin 8) : FVec Ideal S128x128 .f32 :=
  View.ld (Val := Elt Ideal) (e' := EltTy.f32) x (Rect.unit ![128 * ci.val, 128 * h.val] ![128, 128] (Fin.forall_fin_two.mpr ⟨by show 128 * ci.val + 128 ≤ 512; omega, by show 128 * h.val + 128 ≤ 1024; omega⟩))
def ldP (x : FVec Ideal S512x128 .f32) (ci : Fin 4) : FVec Ideal S128x128 .f32 :=
  View.ld (Val := Elt Ideal) (e' := EltTy.f32) x (Rect.unit ![128 * ci.val, 0] ![128, 128] (Fin.forall_fin_two.mpr ⟨by show 128 * ci.val + 128 ≤ 512; omega, Nat.le_refl 128⟩))
def ldH (x : FVec Ideal S8x128x128 .f32) (h : Fin 8) : FVec Ideal S1x128x128 .f32 :=
  View.ld (Val := Elt Ideal) (e' := EltTy.f32) x (Rect.unit ![h.val, 0, 0] ![1, 128, 128] (Fin.forall_fin_succ.mpr ⟨by show h.val + 1 ≤ 8; omega, Fin.forall_fin_two.mpr ⟨Nat.le_refl 128, Nat.le_refl 128⟩⟩))
def ldD (x : FVec Ideal S8x8x128 .f32) (h : Fin 8) : FVec Ideal S1x8x128 .f32 :=
  View.ld (Val := Elt Ideal) (e' := EltTy.f32) x (Rect.unit ![h.val, 0, 0] ![1, 8, 128] (Fin.forall_fin_succ.mpr ⟨by show h.val + 1 ≤ 8; omega, Fin.forall_fin_two.mpr ⟨Nat.le_refl 8, Nat.le_refl 128⟩⟩))

theorem ldM_at (x : FVec Ideal S512x1024 .f32) (ci : Fin 4) (h : Fin 8) (i d : Fin 128) : ldM x ci h (ix2 i d) = x (ix2 (rw ci i) (cl h d)) :=
  View.ld_unit_apply_of (Val := Elt Ideal) (e := EltTy.f32) x _ _ _ _ _ (Fin.forall_fin_two.mpr ⟨rfl, rfl⟩)
theorem ldP_at (x : FVec Ideal S512x128 .f32) (ci : Fin 4) (i d : Fin 128) : ldP x ci (ix2 i d) = x (ix2 (rw ci i) d) :=
  View.ld_unit_apply_of (Val := Elt Ideal) (e := EltTy.f32) x _ _ _ _ _ (Fin.forall_fin_two.mpr ⟨rfl, (Nat.zero_add _).symm⟩)
theorem ldH_at (x : FVec Ideal S8x128x128 .f32) (h : Fin 8) (a b : Fin 128) : ldH x h (ix3 0 a b) = x (ix3 h a b) :=
  View.ld_unit_apply_of (Val := Elt Ideal) (e := EltTy.f32) x _ _ _ _ _ (Fin.forall_fin_succ.mpr ⟨rfl, Fin.forall_fin_two.mpr ⟨(Nat.zero_add _).symm, (Nat.zero_add _).symm⟩⟩)
theorem ldD_at (x : FVec Ideal S8x8x128 .f32) (h : Fin 8) (a : Fin 8) (b : Fin 128) : ldD x h (ix3 0 a b) = x (ix3 h a b) :=
  View.ld_unit_apply_of (Val := Elt Ideal) (e := EltTy.f32) x _ _ _ _ _ (Fin.forall_fin_succ.mpr ⟨rfl, Fin.forall_fin_two.mpr ⟨(Nat.zero_add _).symm, (Nat.zero_add _).symm⟩⟩)

/-- A key row of the block, rotated and scaled; a query row, rotated. -/
def keyB (x1 : FVec Ideal S512x1024 .f32) (x4 x5 : FVec Ideal S512x128 .f32) (r : Fin 512) (h : Fin 8) (d : Fin 128) : EReal :=
  rotAt (fun d => x1 (ix2 r (cl h d))) (fun d => x4 (ix2 r d)) (fun d => x5 (ix2 r d)) d * scl
def qryB (x0 : FVec Ideal S512x1024 .f32) (x4 x5 : FVec Ideal S512x128 .f32) (r : Fin 512) (h : Fin 8) (d : Fin 128) : EReal :=
  rotAt (fun d => x0 (ix2 r (cl h d))) (fun d => x4 (ix2 r d)) (fun d => x5 (ix2 r d)) d

/-- The states of all heads after chunk `ci` of a block, from the states before it. -/
def upd (x1 x2 : FVec Ideal S512x1024 .f32) (x4 x5 : FVec Ideal S512x128 .f32) (x8 : FVec Ideal S8x128x128 .f32)
    (x9 : FVec Ideal S8x8x128 .f32) (ci : Fin 4) (s : FVec Ideal S8x128x128 .f32) : FVec Ideal S8x128x128 .f32 :=
  fun j => s j * x9 (ix3 (j 0) 0 (j 2))
    + ∑ i : Fin 128, keyB x1 x4 x5 (rw ci i) (j 0) (j 1) * x8 (ix3 (j 0) i (j 1)) * x2 (ix2 (rw ci i) (cl (j 0) (j 2)))

/-- One head's state through chunk `ci` of the block, as the kernel's blocks. -/
def stp (x1 x2 : FVec Ideal S512x1024 .f32) (x4 x5 : FVec Ideal S512x128 .f32) (x8 : FVec Ideal S8x128x128 .f32)
    (x9 : FVec Ideal S8x8x128 .f32) (h : Fin 8) (ci : Fin 4) (s : FVec Ideal S1x128x128 .f32) : FVec Ideal S1x128x128 .f32 :=
  stepS s (ldM x1 ci h) (ldM x2 ci h) (ldP x4 ci) (ldP x5 ci) (ldH x8 h) (ldD x9 h)

/-- It is head `h` of the update of all heads. -/
theorem stp_at (x1 x2 : FVec Ideal S512x1024 .f32) (x4 x5 : FVec Ideal S512x128 .f32) (x8 : FVec Ideal S8x128x128 .f32)
    (x9 : FVec Ideal S8x8x128 .f32) (h : Fin 8) (ci : Fin 4) (sl : FVec Ideal S1x128x128 .f32) (s : FVec Ideal S8x128x128 .f32)
    (hs : ∀ a b, sl (ix3 0 a b) = s (ix3 h a b)) (a b : Fin 128) :
    stp x1 x2 x4 x5 x8 x9 h ci sl (ix3 0 a b) = upd x1 x2 x4 x5 x8 x9 ci s (ix3 h a b) := by
  rw [stp, stepS_at, hs, ldD_at]
  simp only [rowsK_at, ldM_at, ldP_at, ldH_at]
  rfl

theorem piece (x1 x2 : FVec Ideal S512x1024 .f32) (x4 x5 : FVec Ideal S512x128 .f32) (x8 : FVec Ideal S8x128x128 .f32)
    (x9 : FVec Ideal S8x8x128 .f32) (h : Fin 8) (sl : FVec Ideal S1x128x128 .f32) (s : FVec Ideal S8x128x128 .f32)
    (hs : ∀ a b, sl (ix3 0 a b) = s (ix3 h a b)) (y : S1x128x128.Idx) (z : S8x128x128.Idx) (hz : ∀ a, (z a).val = (![h.val, 0, 0] : Fin 3 → ℕ) a + (y a).val) :
    (fun u => u 3 (u 2 (u 1 (u 0 sl)))) (stp x1 x2 x4 x5 x8 x9 h) y
      = (fun u => u 3 (u 2 (u 1 (u 0 s)))) (upd x1 x2 x4 x5 x8 x9) z := by
  obtain ⟨o, a, b, rfl⟩ : ∃ (o : Fin 1) (a b : Fin 128), y = ix3 o a b := ⟨y 0, y 1, y 2, eq_ix3 y⟩
  obtain rfl : o = 0 := Subsingleton.elim _ _
  obtain rfl : z = ix3 h a b := by
    funext k
    refine Fin.ext ((hz k).trans ?_)
    revert k
    exact Fin.forall_fin_succ.mpr ⟨rfl, Fin.forall_fin_two.mpr ⟨Nat.zero_add _, Nat.zero_add _⟩⟩
  exact stp_at _ _ _ _ _ _ h 3 _ _ (fun a b => stp_at _ _ _ _ _ _ h 2 _ _ (fun a b => stp_at _ _ _ _ _ _ h 1 _ _ (fun a b => stp_at _ _ _ _ _ _ h 0 _ _ hs a b) a b) a b) a b

/-- The states before each chunk of a block. -/
def sts (u : Fin 4 → FVec Ideal S8x128x128 .f32 → FVec Ideal S8x128x128 .f32) (s : FVec Ideal S8x128x128 .f32) :
    Fin 4 → FVec Ideal S8x128x128 .f32 := ![s, u 0 s, u 1 (u 0 s), u 2 (u 1 (u 0 s))]

/-- Row `i` of chunk `ci` of head `h`'s output before its scaling: the chunk's own rows and the state `s` before it. -/
def ret (x0 x1 x2 : FVec Ideal S512x1024 .f32) (x4 x5 : FVec Ideal S512x128 .f32) (x6 x7 : FVec Ideal S8x128x128 .f32)
    (s : FVec Ideal S8x128x128 .f32) (ci : Fin 4) (h : Fin 8) (i l : Fin 128) : EReal :=
  (∑ k : Fin 128, (∑ d : Fin 128, qryB x0 x4 x5 (rw ci i) h d * keyB x1 x4 x5 (rw ci k) h d) * x6 (ix3 h i k) * x2 (ix2 (rw ci k) (cl h l)))
    + ∑ d : Fin 128, qryB x0 x4 x5 (rw ci i) h d * x7 (ix3 h i d) * s (ix3 h d l)

/-- The block's output at chunk, head, row and column. -/
def outAt (x0 x1 x2 x3 : FVec Ideal S512x1024 .f32) (x4 x5 : FVec Ideal S512x128 .f32) (x6 x7 : FVec Ideal S8x128x128 .f32)
    (s : FVec Ideal S8x128x128 .f32) (ci : Fin 4) (h : Fin 8) (i b : Fin 128) : EReal :=
  ret x0 x1 x2 x4 x5 x6 x7 s ci h i b * Ideal.rsqrt (Ideal.div (∑ l : Fin 128, ret x0 x1 x2 x4 x5 x6 x7 s ci h i l * ret x0 x1 x2 x4 x5 x6 x7 s ci h i l)
      (Ideal.ofBits FTy.f32 0x43000000#32) + Ideal.ofBits FTy.f32 0x358637BD#32)
    * (x3 (ix2 (rw ci i) (cl h b)) * Ideal.logistic (x3 (ix2 (rw ci i) (cl h b))))

/-- The block's output as an array. -/
def outG (x0 x1 x2 x3 : FVec Ideal S512x1024 .f32) (x4 x5 : FVec Ideal S512x128 .f32) (x6 x7 : FVec Ideal S8x128x128 .f32)
    (s : Fin 4 → FVec Ideal S8x128x128 .f32) (y : S512x1024.Idx) : EReal :=
  outAt x0 x1 x2 x3 x4 x5 x6 x7 (s ⟨(y 0).val / 128, by have : (y 0).val < 512 := (y 0).isLt; omega⟩)
    ⟨(y 0).val / 128, by have : (y 0).val < 512 := (y 0).isLt; omega⟩ ⟨(y 1).val / 128, by have : (y 1).val < 1024 := (y 1).isLt; omega⟩
    ⟨(y 0).val % 128, Nat.mod_lt _ (by decide)⟩ ⟨(y 1).val % 128, Nat.mod_lt _ (by decide)⟩

/-- One head's output of one chunk is its piece of the block's output. -/
theorem opiece (x0 x1 x2 x3 : FVec Ideal S512x1024 .f32) (x4 x5 : FVec Ideal S512x128 .f32) (x6 x7 : FVec Ideal S8x128x128 .f32)
    (s : Fin 4 → FVec Ideal S8x128x128 .f32) (ci : Fin 4) (h : Fin 8) (sl : FVec Ideal S1x128x128 .f32)
    (hs : ∀ a b, sl (ix3 0 a b) = s ci (ix3 h a b)) (y : S128x128.Idx) (z : S512x1024.Idx)
    (o0 o1 : ℕ) (ho0 : o0 = 128 * ci.val) (ho1 : o1 = 128 * h.val) (hz : ∀ a, (z a).val = (![o0, o1] : Fin 2 → ℕ) a + (y a).val) :
    stepO sl (ldM x0 ci h) (ldM x1 ci h) (ldM x2 ci h) (ldM x3 ci h) (ldP x4 ci) (ldP x5 ci) (ldH x6 h) (ldH x7 h) y
      = outG x0 x1 x2 x3 x4 x5 x6 x7 s z := by
  obtain ⟨a, b, rfl⟩ : ∃ (a b : Fin 128), y = ix2 a b := ⟨y 0, y 1, eq_ix2 y⟩
  have h0 : (z 0).val = 128 * ci.val + a.val := ho0 ▸ hz 0
  have h1 : (z 1).val = 128 * h.val + b.val := ho1 ▸ hz 1
  have e0 : (⟨(z 0).val / 128, by have : (z 0).val < 512 := (z 0).isLt; omega⟩ : Fin 4) = ci := Fin.ext (by show (z 0).val / 128 = ci.val; omega)
  have e1 : (⟨(z 1).val / 128, by have : (z 1).val < 1024 := (z 1).isLt; omega⟩ : Fin 8) = h := Fin.ext (by show (z 1).val / 128 = h.val; omega)
  have e2 : (⟨(z 0).val % 128, Nat.mod_lt _ (by decide)⟩ : Fin 128) = a := Fin.ext (by show (z 0).val % 128 = a.val; omega)
  have e3 : (⟨(z 1).val % 128, Nat.mod_lt _ (by decide)⟩ : Fin 128) = b := Fin.ext (by show (z 1).val % 128 = b.val; omega)
  rw [outG, e0, e1, e2, e3, stepO_at]
  simp only [rowsK_at, rowsQ_at, ldM_at, ldP_at, ldH_at, hs]
  rfl

set_option maxHeartbeats 4000000 in
/-- The states after a point that is not the first of its sequence: the four chunks' updates of the states before it. -/
theorem scrB (c : Dev nD) (t : Fin cfg0.N) (h : ¬t.val % 8 = 0) (j : S8x128x128.Idx) : (outsAt0 m c t.val t.isLt).2 j
    = (fun u => u 3 (u 2 (u 1 (u 0 (outsAt0 m c (t.val - 1) (Nat.lt_of_le_of_lt (Nat.sub_le _ _) t.isLt)).2))))
        (upd (iblk m c 1 t) (iblk m c 2 t) (iblk m c 4 t) (iblk m c 5 t) (iblk m c 8 t) (iblk m c 9 t)) j := by
  rw [outsAt0_B m c t h]
  frame_open
  simp (disch := decide) only [↓ View.readCov_skip, ↓ View.readCov_cons_toLoadRect, ↓ View.readCov_fill]
  frame_out
  simp only [read_unread_whole]
  generalize (outsAt0 m c (t.val - 1) (Nat.lt_of_le_of_lt (Nat.sub_le _ _) t.isLt)).2 = s
  generalize iblk m c 0 t = x0
  generalize iblk m c 1 t = x1
  generalize iblk m c 2 t = x2
  generalize iblk m c 3 t = x3
  generalize iblk m c 4 t = x4
  generalize iblk m c 5 t = x5
  generalize iblk m c 6 t = x6
  generalize iblk m c 7 t = x7
  generalize iblk m c 8 t = x8
  generalize iblk m c 9 t = x9
  refine View.canon_append_of_piecesOf _ _ [_, _, _, _, _, _, _, _] ⟨?_, ?_, ?_, ?_, ?_, ?_, ?_, ?_, trivial⟩ _ ?_
  · exact fun y => piece x1 x2 x4 x5 x8 x9 7 (ldH s 7) s (fun a b => ldH_at s 7 a b) y _ (fun a => Rect.idx_unit_val (s := S8x128x128) ![7, 0, 0] ![1, 128, 128] inb_S8x128x128_S1x128x128_7_0_0 y a)
  · exact fun y => piece x1 x2 x4 x5 x8 x9 6 (ldH s 6) s (fun a b => ldH_at s 6 a b) y _ (fun a => Rect.idx_unit_val (s := S8x128x128) ![6, 0, 0] ![1, 128, 128] inb_S8x128x128_S1x128x128_6_0_0 y a)
  · exact fun y => piece x1 x2 x4 x5 x8 x9 5 (ldH s 5) s (fun a b => ldH_at s 5 a b) y _ (fun a => Rect.idx_unit_val (s := S8x128x128) ![5, 0, 0] ![1, 128, 128] inb_S8x128x128_S1x128x128_5_0_0 y a)
  · exact fun y => piece x1 x2 x4 x5 x8 x9 4 (ldH s 4) s (fun a b => ldH_at s 4 a b) y _ (fun a => Rect.idx_unit_val (s := S8x128x128) ![4, 0, 0] ![1, 128, 128] inb_S8x128x128_S1x128x128_4_0_0 y a)
  · exact fun y => piece x1 x2 x4 x5 x8 x9 3 (ldH s 3) s (fun a b => ldH_at s 3 a b) y _ (fun a => Rect.idx_unit_val (s := S8x128x128) ![3, 0, 0] ![1, 128, 128] inb_S8x128x128_S1x128x128_3_0_0 y a)
  · exact fun y => piece x1 x2 x4 x5 x8 x9 2 (ldH s 2) s (fun a b => ldH_at s 2 a b) y _ (fun a => Rect.idx_unit_val (s := S8x128x128) ![2, 0, 0] ![1, 128, 128] inb_S8x128x128_S1x128x128_2_0_0 y a)
  · exact fun y => piece x1 x2 x4 x5 x8 x9 1 (ldH s 1) s (fun a b => ldH_at s 1 a b) y _ (fun a => Rect.idx_unit_val (s := S8x128x128) ![1, 0, 0] ![1, 128, 128] inb_S8x128x128_S1x128x128_1_0_0 y a)
  · exact fun y => piece x1 x2 x4 x5 x8 x9 0 (ldH s 0) s (fun a b => ldH_at s 0 a b) y _ (fun a => Rect.idx_unit_val (s := S8x128x128) ![0, 0, 0] ![1, 128, 128] inb_S8x128x128_S1x128x128_0_0_0 y a)
  · exact View.cover_of_tiledL _ ![1, 128, 128] (by rfl) j

set_option maxHeartbeats 8000000 in
/-- The output block of such a point. -/
theorem outB (c : Dev nD) (t : Fin cfg0.N) (h : ¬t.val % 8 = 0) (j : S512x1024.Idx) : (outsAt0 m c t.val t.isLt).1 j
    = outG (iblk m c 0 t) (iblk m c 1 t) (iblk m c 2 t) (iblk m c 3 t) (iblk m c 4 t) (iblk m c 5 t) (iblk m c 6 t) (iblk m c 7 t) (sts (upd (iblk m c 1 t) (iblk m c 2 t) (iblk m c 4 t) (iblk m c 5 t) (iblk m c 8 t) (iblk m c 9 t)) (outsAt0 m c (t.val - 1) (Nat.lt_of_le_of_lt (Nat.sub_le _ _) t.isLt)).2) j := by
  rw [outsAt0_B m c t h]
  frame_open
  simp (disch := decide) only [↓ View.readCov_skip, ↓ View.readCov_cons_toLoadRect, ↓ View.readCov_fill]
  frame_out
  simp only [read_unread_whole]
  generalize (outsAt0 m c (t.val - 1) (Nat.lt_of_le_of_lt (Nat.sub_le _ _) t.isLt)).2 = s
  generalize iblk m c 0 t = x0
  generalize iblk m c 1 t = x1
  generalize iblk m c 2 t = x2
  generalize iblk m c 3 t = x3
  generalize iblk m c 4 t = x4
  generalize iblk m c 5 t = x5
  generalize iblk m c 6 t = x6
  generalize iblk m c 7 t = x7
  generalize iblk m c 8 t = x8
  generalize iblk m c 9 t = x9
  refine View.canon_append_of_piecesOf _ _ [_, _, _, _, _, _, _, _, _, _, _, _, _, _, _, _, _, _, _, _, _, _, _, _, _, _, _, _, _, _, _, _] ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, trivial⟩ _ ?_
  · exact fun y => opiece x0 x1 x2 x3 x4 x5 x6 x7 (sts (upd x1 x2 x4 x5 x8 x9) s) 3 7 _ (fun a b => stp_at x1 x2 x4 x5 x8 x9 7 2 _ _ (fun a b => stp_at x1 x2 x4 x5 x8 x9 7 1 _ _ (fun a b => stp_at x1 x2 x4 x5 x8 x9 7 0 _ _ (fun a b => ldH_at s 7 a b) a b) a b) a b) y _ 384 896 rfl rfl (fun a => Rect.idx_unit_val (s := S512x1024) ![384, 896] ![128, 128] inb_S512x1024_S128x128_384_896 y a)
  · exact fun y => opiece x0 x1 x2 x3 x4 x5 x6 x7 (sts (upd x1 x2 x4 x5 x8 x9) s) 3 6 _ (fun a b => stp_at x1 x2 x4 x5 x8 x9 6 2 _ _ (fun a b => stp_at x1 x2 x4 x5 x8 x9 6 1 _ _ (fun a b => stp_at x1 x2 x4 x5 x8 x9 6 0 _ _ (fun a b => ldH_at s 6 a b) a b) a b) a b) y _ 384 768 rfl rfl (fun a => Rect.idx_unit_val (s := S512x1024) ![384, 768] ![128, 128] inb_S512x1024_S128x128_384_768 y a)
  · exact fun y => opiece x0 x1 x2 x3 x4 x5 x6 x7 (sts (upd x1 x2 x4 x5 x8 x9) s) 3 5 _ (fun a b => stp_at x1 x2 x4 x5 x8 x9 5 2 _ _ (fun a b => stp_at x1 x2 x4 x5 x8 x9 5 1 _ _ (fun a b => stp_at x1 x2 x4 x5 x8 x9 5 0 _ _ (fun a b => ldH_at s 5 a b) a b) a b) a b) y _ 384 640 rfl rfl (fun a => Rect.idx_unit_val (s := S512x1024) ![384, 640] ![128, 128] inb_S512x1024_S128x128_384_640 y a)
  · exact fun y => opiece x0 x1 x2 x3 x4 x5 x6 x7 (sts (upd x1 x2 x4 x5 x8 x9) s) 3 4 _ (fun a b => stp_at x1 x2 x4 x5 x8 x9 4 2 _ _ (fun a b => stp_at x1 x2 x4 x5 x8 x9 4 1 _ _ (fun a b => stp_at x1 x2 x4 x5 x8 x9 4 0 _ _ (fun a b => ldH_at s 4 a b) a b) a b) a b) y _ 384 512 rfl rfl (fun a => Rect.idx_unit_val (s := S512x1024) ![384, 512] ![128, 128] inb_S512x1024_S128x128_384_512 y a)
  · exact fun y => opiece x0 x1 x2 x3 x4 x5 x6 x7 (sts (upd x1 x2 x4 x5 x8 x9) s) 3 3 _ (fun a b => stp_at x1 x2 x4 x5 x8 x9 3 2 _ _ (fun a b => stp_at x1 x2 x4 x5 x8 x9 3 1 _ _ (fun a b => stp_at x1 x2 x4 x5 x8 x9 3 0 _ _ (fun a b => ldH_at s 3 a b) a b) a b) a b) y _ 384 384 rfl rfl (fun a => Rect.idx_unit_val (s := S512x1024) ![384, 384] ![128, 128] inb_S512x1024_S128x128_384_384 y a)
  · exact fun y => opiece x0 x1 x2 x3 x4 x5 x6 x7 (sts (upd x1 x2 x4 x5 x8 x9) s) 3 2 _ (fun a b => stp_at x1 x2 x4 x5 x8 x9 2 2 _ _ (fun a b => stp_at x1 x2 x4 x5 x8 x9 2 1 _ _ (fun a b => stp_at x1 x2 x4 x5 x8 x9 2 0 _ _ (fun a b => ldH_at s 2 a b) a b) a b) a b) y _ 384 256 rfl rfl (fun a => Rect.idx_unit_val (s := S512x1024) ![384, 256] ![128, 128] inb_S512x1024_S128x128_384_256 y a)
  · exact fun y => opiece x0 x1 x2 x3 x4 x5 x6 x7 (sts (upd x1 x2 x4 x5 x8 x9) s) 3 1 _ (fun a b => stp_at x1 x2 x4 x5 x8 x9 1 2 _ _ (fun a b => stp_at x1 x2 x4 x5 x8 x9 1 1 _ _ (fun a b => stp_at x1 x2 x4 x5 x8 x9 1 0 _ _ (fun a b => ldH_at s 1 a b) a b) a b) a b) y _ 384 128 rfl rfl (fun a => Rect.idx_unit_val (s := S512x1024) ![384, 128] ![128, 128] inb_S512x1024_S128x128_384_128 y a)
  · exact fun y => opiece x0 x1 x2 x3 x4 x5 x6 x7 (sts (upd x1 x2 x4 x5 x8 x9) s) 3 0 _ (fun a b => stp_at x1 x2 x4 x5 x8 x9 0 2 _ _ (fun a b => stp_at x1 x2 x4 x5 x8 x9 0 1 _ _ (fun a b => stp_at x1 x2 x4 x5 x8 x9 0 0 _ _ (fun a b => ldH_at s 0 a b) a b) a b) a b) y _ 384 0 rfl rfl (fun a => Rect.idx_unit_val (s := S512x1024) ![384, 0] ![128, 128] inb_S512x1024_S128x128_384_0 y a)
  · exact fun y => opiece x0 x1 x2 x3 x4 x5 x6 x7 (sts (upd x1 x2 x4 x5 x8 x9) s) 2 7 _ (fun a b => stp_at x1 x2 x4 x5 x8 x9 7 1 _ _ (fun a b => stp_at x1 x2 x4 x5 x8 x9 7 0 _ _ (fun a b => ldH_at s 7 a b) a b) a b) y _ 256 896 rfl rfl (fun a => Rect.idx_unit_val (s := S512x1024) ![256, 896] ![128, 128] inb_S512x1024_S128x128_256_896 y a)
  · exact fun y => opiece x0 x1 x2 x3 x4 x5 x6 x7 (sts (upd x1 x2 x4 x5 x8 x9) s) 2 6 _ (fun a b => stp_at x1 x2 x4 x5 x8 x9 6 1 _ _ (fun a b => stp_at x1 x2 x4 x5 x8 x9 6 0 _ _ (fun a b => ldH_at s 6 a b) a b) a b) y _ 256 768 rfl rfl (fun a => Rect.idx_unit_val (s := S512x1024) ![256, 768] ![128, 128] inb_S512x1024_S128x128_256_768 y a)
  · exact fun y => opiece x0 x1 x2 x3 x4 x5 x6 x7 (sts (upd x1 x2 x4 x5 x8 x9) s) 2 5 _ (fun a b => stp_at x1 x2 x4 x5 x8 x9 5 1 _ _ (fun a b => stp_at x1 x2 x4 x5 x8 x9 5 0 _ _ (fun a b => ldH_at s 5 a b) a b) a b) y _ 256 640 rfl rfl (fun a => Rect.idx_unit_val (s := S512x1024) ![256, 640] ![128, 128] inb_S512x1024_S128x128_256_640 y a)
  · exact fun y => opiece x0 x1 x2 x3 x4 x5 x6 x7 (sts (upd x1 x2 x4 x5 x8 x9) s) 2 4 _ (fun a b => stp_at x1 x2 x4 x5 x8 x9 4 1 _ _ (fun a b => stp_at x1 x2 x4 x5 x8 x9 4 0 _ _ (fun a b => ldH_at s 4 a b) a b) a b) y _ 256 512 rfl rfl (fun a => Rect.idx_unit_val (s := S512x1024) ![256, 512] ![128, 128] inb_S512x1024_S128x128_256_512 y a)
  · exact fun y => opiece x0 x1 x2 x3 x4 x5 x6 x7 (sts (upd x1 x2 x4 x5 x8 x9) s) 2 3 _ (fun a b => stp_at x1 x2 x4 x5 x8 x9 3 1 _ _ (fun a b => stp_at x1 x2 x4 x5 x8 x9 3 0 _ _ (fun a b => ldH_at s 3 a b) a b) a b) y _ 256 384 rfl rfl (fun a => Rect.idx_unit_val (s := S512x1024) ![256, 384] ![128, 128] inb_S512x1024_S128x128_256_384 y a)
  · exact fun y => opiece x0 x1 x2 x3 x4 x5 x6 x7 (sts (upd x1 x2 x4 x5 x8 x9) s) 2 2 _ (fun a b => stp_at x1 x2 x4 x5 x8 x9 2 1 _ _ (fun a b => stp_at x1 x2 x4 x5 x8 x9 2 0 _ _ (fun a b => ldH_at s 2 a b) a b) a b) y _ 256 256 rfl rfl (fun a => Rect.idx_unit_val (s := S512x1024) ![256, 256] ![128, 128] inb_S512x1024_S128x128_256_256 y a)
  · exact fun y => opiece x0 x1 x2 x3 x4 x5 x6 x7 (sts (upd x1 x2 x4 x5 x8 x9) s) 2 1 _ (fun a b => stp_at x1 x2 x4 x5 x8 x9 1 1 _ _ (fun a b => stp_at x1 x2 x4 x5 x8 x9 1 0 _ _ (fun a b => ldH_at s 1 a b) a b) a b) y _ 256 128 rfl rfl (fun a => Rect.idx_unit_val (s := S512x1024) ![256, 128] ![128, 128] inb_S512x1024_S128x128_256_128 y a)
  · exact fun y => opiece x0 x1 x2 x3 x4 x5 x6 x7 (sts (upd x1 x2 x4 x5 x8 x9) s) 2 0 _ (fun a b => stp_at x1 x2 x4 x5 x8 x9 0 1 _ _ (fun a b => stp_at x1 x2 x4 x5 x8 x9 0 0 _ _ (fun a b => ldH_at s 0 a b) a b) a b) y _ 256 0 rfl rfl (fun a => Rect.idx_unit_val (s := S512x1024) ![256, 0] ![128, 128] inb_S512x1024_S128x128_256_0 y a)
  · exact fun y => opiece x0 x1 x2 x3 x4 x5 x6 x7 (sts (upd x1 x2 x4 x5 x8 x9) s) 1 7 _ (fun a b => stp_at x1 x2 x4 x5 x8 x9 7 0 _ _ (fun a b => ldH_at s 7 a b) a b) y _ 128 896 rfl rfl (fun a => Rect.idx_unit_val (s := S512x1024) ![128, 896] ![128, 128] inb_S512x1024_S128x128_128_896 y a)
  · exact fun y => opiece x0 x1 x2 x3 x4 x5 x6 x7 (sts (upd x1 x2 x4 x5 x8 x9) s) 1 6 _ (fun a b => stp_at x1 x2 x4 x5 x8 x9 6 0 _ _ (fun a b => ldH_at s 6 a b) a b) y _ 128 768 rfl rfl (fun a => Rect.idx_unit_val (s := S512x1024) ![128, 768] ![128, 128] inb_S512x1024_S128x128_128_768 y a)
  · exact fun y => opiece x0 x1 x2 x3 x4 x5 x6 x7 (sts (upd x1 x2 x4 x5 x8 x9) s) 1 5 _ (fun a b => stp_at x1 x2 x4 x5 x8 x9 5 0 _ _ (fun a b => ldH_at s 5 a b) a b) y _ 128 640 rfl rfl (fun a => Rect.idx_unit_val (s := S512x1024) ![128, 640] ![128, 128] inb_S512x1024_S128x128_128_640 y a)
  · exact fun y => opiece x0 x1 x2 x3 x4 x5 x6 x7 (sts (upd x1 x2 x4 x5 x8 x9) s) 1 4 _ (fun a b => stp_at x1 x2 x4 x5 x8 x9 4 0 _ _ (fun a b => ldH_at s 4 a b) a b) y _ 128 512 rfl rfl (fun a => Rect.idx_unit_val (s := S512x1024) ![128, 512] ![128, 128] inb_S512x1024_S128x128_128_512 y a)
  · exact fun y => opiece x0 x1 x2 x3 x4 x5 x6 x7 (sts (upd x1 x2 x4 x5 x8 x9) s) 1 3 _ (fun a b => stp_at x1 x2 x4 x5 x8 x9 3 0 _ _ (fun a b => ldH_at s 3 a b) a b) y _ 128 384 rfl rfl (fun a => Rect.idx_unit_val (s := S512x1024) ![128, 384] ![128, 128] inb_S512x1024_S128x128_128_384 y a)
  · exact fun y => opiece x0 x1 x2 x3 x4 x5 x6 x7 (sts (upd x1 x2 x4 x5 x8 x9) s) 1 2 _ (fun a b => stp_at x1 x2 x4 x5 x8 x9 2 0 _ _ (fun a b => ldH_at s 2 a b) a b) y _ 128 256 rfl rfl (fun a => Rect.idx_unit_val (s := S512x1024) ![128, 256] ![128, 128] inb_S512x1024_S128x128_128_256 y a)
  · exact fun y => opiece x0 x1 x2 x3 x4 x5 x6 x7 (sts (upd x1 x2 x4 x5 x8 x9) s) 1 1 _ (fun a b => stp_at x1 x2 x4 x5 x8 x9 1 0 _ _ (fun a b => ldH_at s 1 a b) a b) y _ 128 128 rfl rfl (fun a => Rect.idx_unit_val (s := S512x1024) ![128, 128] ![128, 128] inb_S512x1024_S128x128_128_128 y a)
  · exact fun y => opiece x0 x1 x2 x3 x4 x5 x6 x7 (sts (upd x1 x2 x4 x5 x8 x9) s) 1 0 _ (fun a b => stp_at x1 x2 x4 x5 x8 x9 0 0 _ _ (fun a b => ldH_at s 0 a b) a b) y _ 128 0 rfl rfl (fun a => Rect.idx_unit_val (s := S512x1024) ![128, 0] ![128, 128] inb_S512x1024_S128x128_128_0 y a)
  · exact fun y => opiece x0 x1 x2 x3 x4 x5 x6 x7 (sts (upd x1 x2 x4 x5 x8 x9) s) 0 7 _ (fun a b => ldH_at s 7 a b) y _ 0 896 rfl rfl (fun a => Rect.idx_unit_val (s := S512x1024) ![0, 896] ![128, 128] inb_S512x1024_S128x128_0_896 y a)
  · exact fun y => opiece x0 x1 x2 x3 x4 x5 x6 x7 (sts (upd x1 x2 x4 x5 x8 x9) s) 0 6 _ (fun a b => ldH_at s 6 a b) y _ 0 768 rfl rfl (fun a => Rect.idx_unit_val (s := S512x1024) ![0, 768] ![128, 128] inb_S512x1024_S128x128_0_768 y a)
  · exact fun y => opiece x0 x1 x2 x3 x4 x5 x6 x7 (sts (upd x1 x2 x4 x5 x8 x9) s) 0 5 _ (fun a b => ldH_at s 5 a b) y _ 0 640 rfl rfl (fun a => Rect.idx_unit_val (s := S512x1024) ![0, 640] ![128, 128] inb_S512x1024_S128x128_0_640 y a)
  · exact fun y => opiece x0 x1 x2 x3 x4 x5 x6 x7 (sts (upd x1 x2 x4 x5 x8 x9) s) 0 4 _ (fun a b => ldH_at s 4 a b) y _ 0 512 rfl rfl (fun a => Rect.idx_unit_val (s := S512x1024) ![0, 512] ![128, 128] inb_S512x1024_S128x128_0_512 y a)
  · exact fun y => opiece x0 x1 x2 x3 x4 x5 x6 x7 (sts (upd x1 x2 x4 x5 x8 x9) s) 0 3 _ (fun a b => ldH_at s 3 a b) y _ 0 384 rfl rfl (fun a => Rect.idx_unit_val (s := S512x1024) ![0, 384] ![128, 128] inb_S512x1024_S128x128_0_384 y a)
  · exact fun y => opiece x0 x1 x2 x3 x4 x5 x6 x7 (sts (upd x1 x2 x4 x5 x8 x9) s) 0 2 _ (fun a b => ldH_at s 2 a b) y _ 0 256 rfl rfl (fun a => Rect.idx_unit_val (s := S512x1024) ![0, 256] ![128, 128] inb_S512x1024_S128x128_0_256 y a)
  · exact fun y => opiece x0 x1 x2 x3 x4 x5 x6 x7 (sts (upd x1 x2 x4 x5 x8 x9) s) 0 1 _ (fun a b => ldH_at s 1 a b) y _ 0 128 rfl rfl (fun a => Rect.idx_unit_val (s := S512x1024) ![0, 128] ![128, 128] inb_S512x1024_S128x128_0_128 y a)
  · exact fun y => opiece x0 x1 x2 x3 x4 x5 x6 x7 (sts (upd x1 x2 x4 x5 x8 x9) s) 0 0 _ (fun a b => ldH_at s 0 a b) y _ 0 0 rfl rfl (fun a => Rect.idx_unit_val (s := S512x1024) ![0, 0] ![128, 128] inb_S512x1024_S128x128_0_0 y a)
  · exact View.cover_of_tiledL _ ![128, 128] (by rfl) j

/-- The states at the start of a sequence. -/
def zeroS : FVec Ideal S8x128x128 .f32 := k0_pay2

set_option maxHeartbeats 4000000 in
/-- The states after a point that is the first of its sequence: the four chunks' updates of the zero states. -/
theorem scrA (c : Dev nD) (t : Fin cfg0.N) (h : t.val % 8 = 0) (j : S8x128x128.Idx) : (outsAt0 m c t.val t.isLt).2 j
    = (fun u => u 3 (u 2 (u 1 (u 0 zeroS))))
        (upd (iblk m c 1 t) (iblk m c 2 t) (iblk m c 4 t) (iblk m c 5 t) (iblk m c 8 t) (iblk m c 9 t)) j := by
  rw [outsAt0_A m c t h]
  frame_open
  simp (disch := decide) only [↓ View.readCov_skip, ↓ View.readCov_cons_toLoadRect, ↓ View.readCov_fill]
  frame_out
  generalize iblk m c 0 t = x0
  generalize iblk m c 1 t = x1
  generalize iblk m c 2 t = x2
  generalize iblk m c 3 t = x3
  generalize iblk m c 4 t = x4
  generalize iblk m c 5 t = x5
  generalize iblk m c 6 t = x6
  generalize iblk m c 7 t = x7
  generalize iblk m c 8 t = x8
  generalize iblk m c 9 t = x9
  refine View.canon_append_of_piecesOf _ _ [_, _, _, _, _, _, _, _] ⟨?_, ?_, ?_, ?_, ?_, ?_, ?_, ?_, trivial⟩ _ ?_
  · exact fun y => piece x1 x2 x4 x5 x8 x9 7 (ldH zeroS 7) zeroS (fun a b => ldH_at zeroS 7 a b) y _ (fun a => Rect.idx_unit_val (s := S8x128x128) ![7, 0, 0] ![1, 128, 128] inb_S8x128x128_S1x128x128_7_0_0 y a)
  · exact fun y => piece x1 x2 x4 x5 x8 x9 6 (ldH zeroS 6) zeroS (fun a b => ldH_at zeroS 6 a b) y _ (fun a => Rect.idx_unit_val (s := S8x128x128) ![6, 0, 0] ![1, 128, 128] inb_S8x128x128_S1x128x128_6_0_0 y a)
  · exact fun y => piece x1 x2 x4 x5 x8 x9 5 (ldH zeroS 5) zeroS (fun a b => ldH_at zeroS 5 a b) y _ (fun a => Rect.idx_unit_val (s := S8x128x128) ![5, 0, 0] ![1, 128, 128] inb_S8x128x128_S1x128x128_5_0_0 y a)
  · exact fun y => piece x1 x2 x4 x5 x8 x9 4 (ldH zeroS 4) zeroS (fun a b => ldH_at zeroS 4 a b) y _ (fun a => Rect.idx_unit_val (s := S8x128x128) ![4, 0, 0] ![1, 128, 128] inb_S8x128x128_S1x128x128_4_0_0 y a)
  · exact fun y => piece x1 x2 x4 x5 x8 x9 3 (ldH zeroS 3) zeroS (fun a b => ldH_at zeroS 3 a b) y _ (fun a => Rect.idx_unit_val (s := S8x128x128) ![3, 0, 0] ![1, 128, 128] inb_S8x128x128_S1x128x128_3_0_0 y a)
  · exact fun y => piece x1 x2 x4 x5 x8 x9 2 (ldH zeroS 2) zeroS (fun a b => ldH_at zeroS 2 a b) y _ (fun a => Rect.idx_unit_val (s := S8x128x128) ![2, 0, 0] ![1, 128, 128] inb_S8x128x128_S1x128x128_2_0_0 y a)
  · exact fun y => piece x1 x2 x4 x5 x8 x9 1 (ldH zeroS 1) zeroS (fun a b => ldH_at zeroS 1 a b) y _ (fun a => Rect.idx_unit_val (s := S8x128x128) ![1, 0, 0] ![1, 128, 128] inb_S8x128x128_S1x128x128_1_0_0 y a)
  · exact fun y => piece x1 x2 x4 x5 x8 x9 0 (ldH zeroS 0) zeroS (fun a b => ldH_at zeroS 0 a b) y _ (fun a => Rect.idx_unit_val (s := S8x128x128) ![0, 0, 0] ![1, 128, 128] inb_S8x128x128_S1x128x128_0_0_0 y a)
  · exact View.cover_of_tiledL _ ![1, 128, 128] (by rfl) j

set_option maxHeartbeats 8000000 in
/-- The output block of such a point. -/
theorem outA (c : Dev nD) (t : Fin cfg0.N) (h : t.val % 8 = 0) (j : S512x1024.Idx) : (outsAt0 m c t.val t.isLt).1 j
    = outG (iblk m c 0 t) (iblk m c 1 t) (iblk m c 2 t) (iblk m c 3 t) (iblk m c 4 t) (iblk m c 5 t) (iblk m c 6 t) (iblk m c 7 t) (sts (upd (iblk m c 1 t) (iblk m c 2 t) (iblk m c 4 t) (iblk m c 5 t) (iblk m c 8 t) (iblk m c 9 t)) zeroS) j := by
  rw [outsAt0_A m c t h]
  frame_open
  simp (disch := decide) only [↓ View.readCov_skip, ↓ View.readCov_cons_toLoadRect, ↓ View.readCov_fill]
  frame_out
  generalize iblk m c 0 t = x0
  generalize iblk m c 1 t = x1
  generalize iblk m c 2 t = x2
  generalize iblk m c 3 t = x3
  generalize iblk m c 4 t = x4
  generalize iblk m c 5 t = x5
  generalize iblk m c 6 t = x6
  generalize iblk m c 7 t = x7
  generalize iblk m c 8 t = x8
  generalize iblk m c 9 t = x9
  refine View.canon_append_of_piecesOf _ _ [_, _, _, _, _, _, _, _, _, _, _, _, _, _, _, _, _, _, _, _, _, _, _, _, _, _, _, _, _, _, _, _] ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, trivial⟩ _ ?_
  · exact fun y => opiece x0 x1 x2 x3 x4 x5 x6 x7 (sts (upd x1 x2 x4 x5 x8 x9) zeroS) 3 7 _ (fun a b => stp_at x1 x2 x4 x5 x8 x9 7 2 _ _ (fun a b => stp_at x1 x2 x4 x5 x8 x9 7 1 _ _ (fun a b => stp_at x1 x2 x4 x5 x8 x9 7 0 _ _ (fun a b => ldH_at zeroS 7 a b) a b) a b) a b) y _ 384 896 rfl rfl (fun a => Rect.idx_unit_val (s := S512x1024) ![384, 896] ![128, 128] inb_S512x1024_S128x128_384_896 y a)
  · exact fun y => opiece x0 x1 x2 x3 x4 x5 x6 x7 (sts (upd x1 x2 x4 x5 x8 x9) zeroS) 3 6 _ (fun a b => stp_at x1 x2 x4 x5 x8 x9 6 2 _ _ (fun a b => stp_at x1 x2 x4 x5 x8 x9 6 1 _ _ (fun a b => stp_at x1 x2 x4 x5 x8 x9 6 0 _ _ (fun a b => ldH_at zeroS 6 a b) a b) a b) a b) y _ 384 768 rfl rfl (fun a => Rect.idx_unit_val (s := S512x1024) ![384, 768] ![128, 128] inb_S512x1024_S128x128_384_768 y a)
  · exact fun y => opiece x0 x1 x2 x3 x4 x5 x6 x7 (sts (upd x1 x2 x4 x5 x8 x9) zeroS) 3 5 _ (fun a b => stp_at x1 x2 x4 x5 x8 x9 5 2 _ _ (fun a b => stp_at x1 x2 x4 x5 x8 x9 5 1 _ _ (fun a b => stp_at x1 x2 x4 x5 x8 x9 5 0 _ _ (fun a b => ldH_at zeroS 5 a b) a b) a b) a b) y _ 384 640 rfl rfl (fun a => Rect.idx_unit_val (s := S512x1024) ![384, 640] ![128, 128] inb_S512x1024_S128x128_384_640 y a)
  · exact fun y => opiece x0 x1 x2 x3 x4 x5 x6 x7 (sts (upd x1 x2 x4 x5 x8 x9) zeroS) 3 4 _ (fun a b => stp_at x1 x2 x4 x5 x8 x9 4 2 _ _ (fun a b => stp_at x1 x2 x4 x5 x8 x9 4 1 _ _ (fun a b => stp_at x1 x2 x4 x5 x8 x9 4 0 _ _ (fun a b => ldH_at zeroS 4 a b) a b) a b) a b) y _ 384 512 rfl rfl (fun a => Rect.idx_unit_val (s := S512x1024) ![384, 512] ![128, 128] inb_S512x1024_S128x128_384_512 y a)
  · exact fun y => opiece x0 x1 x2 x3 x4 x5 x6 x7 (sts (upd x1 x2 x4 x5 x8 x9) zeroS) 3 3 _ (fun a b => stp_at x1 x2 x4 x5 x8 x9 3 2 _ _ (fun a b => stp_at x1 x2 x4 x5 x8 x9 3 1 _ _ (fun a b => stp_at x1 x2 x4 x5 x8 x9 3 0 _ _ (fun a b => ldH_at zeroS 3 a b) a b) a b) a b) y _ 384 384 rfl rfl (fun a => Rect.idx_unit_val (s := S512x1024) ![384, 384] ![128, 128] inb_S512x1024_S128x128_384_384 y a)
  · exact fun y => opiece x0 x1 x2 x3 x4 x5 x6 x7 (sts (upd x1 x2 x4 x5 x8 x9) zeroS) 3 2 _ (fun a b => stp_at x1 x2 x4 x5 x8 x9 2 2 _ _ (fun a b => stp_at x1 x2 x4 x5 x8 x9 2 1 _ _ (fun a b => stp_at x1 x2 x4 x5 x8 x9 2 0 _ _ (fun a b => ldH_at zeroS 2 a b) a b) a b) a b) y _ 384 256 rfl rfl (fun a => Rect.idx_unit_val (s := S512x1024) ![384, 256] ![128, 128] inb_S512x1024_S128x128_384_256 y a)
  · exact fun y => opiece x0 x1 x2 x3 x4 x5 x6 x7 (sts (upd x1 x2 x4 x5 x8 x9) zeroS) 3 1 _ (fun a b => stp_at x1 x2 x4 x5 x8 x9 1 2 _ _ (fun a b => stp_at x1 x2 x4 x5 x8 x9 1 1 _ _ (fun a b => stp_at x1 x2 x4 x5 x8 x9 1 0 _ _ (fun a b => ldH_at zeroS 1 a b) a b) a b) a b) y _ 384 128 rfl rfl (fun a => Rect.idx_unit_val (s := S512x1024) ![384, 128] ![128, 128] inb_S512x1024_S128x128_384_128 y a)
  · exact fun y => opiece x0 x1 x2 x3 x4 x5 x6 x7 (sts (upd x1 x2 x4 x5 x8 x9) zeroS) 3 0 _ (fun a b => stp_at x1 x2 x4 x5 x8 x9 0 2 _ _ (fun a b => stp_at x1 x2 x4 x5 x8 x9 0 1 _ _ (fun a b => stp_at x1 x2 x4 x5 x8 x9 0 0 _ _ (fun a b => ldH_at zeroS 0 a b) a b) a b) a b) y _ 384 0 rfl rfl (fun a => Rect.idx_unit_val (s := S512x1024) ![384, 0] ![128, 128] inb_S512x1024_S128x128_384_0 y a)
  · exact fun y => opiece x0 x1 x2 x3 x4 x5 x6 x7 (sts (upd x1 x2 x4 x5 x8 x9) zeroS) 2 7 _ (fun a b => stp_at x1 x2 x4 x5 x8 x9 7 1 _ _ (fun a b => stp_at x1 x2 x4 x5 x8 x9 7 0 _ _ (fun a b => ldH_at zeroS 7 a b) a b) a b) y _ 256 896 rfl rfl (fun a => Rect.idx_unit_val (s := S512x1024) ![256, 896] ![128, 128] inb_S512x1024_S128x128_256_896 y a)
  · exact fun y => opiece x0 x1 x2 x3 x4 x5 x6 x7 (sts (upd x1 x2 x4 x5 x8 x9) zeroS) 2 6 _ (fun a b => stp_at x1 x2 x4 x5 x8 x9 6 1 _ _ (fun a b => stp_at x1 x2 x4 x5 x8 x9 6 0 _ _ (fun a b => ldH_at zeroS 6 a b) a b) a b) y _ 256 768 rfl rfl (fun a => Rect.idx_unit_val (s := S512x1024) ![256, 768] ![128, 128] inb_S512x1024_S128x128_256_768 y a)
  · exact fun y => opiece x0 x1 x2 x3 x4 x5 x6 x7 (sts (upd x1 x2 x4 x5 x8 x9) zeroS) 2 5 _ (fun a b => stp_at x1 x2 x4 x5 x8 x9 5 1 _ _ (fun a b => stp_at x1 x2 x4 x5 x8 x9 5 0 _ _ (fun a b => ldH_at zeroS 5 a b) a b) a b) y _ 256 640 rfl rfl (fun a => Rect.idx_unit_val (s := S512x1024) ![256, 640] ![128, 128] inb_S512x1024_S128x128_256_640 y a)
  · exact fun y => opiece x0 x1 x2 x3 x4 x5 x6 x7 (sts (upd x1 x2 x4 x5 x8 x9) zeroS) 2 4 _ (fun a b => stp_at x1 x2 x4 x5 x8 x9 4 1 _ _ (fun a b => stp_at x1 x2 x4 x5 x8 x9 4 0 _ _ (fun a b => ldH_at zeroS 4 a b) a b) a b) y _ 256 512 rfl rfl (fun a => Rect.idx_unit_val (s := S512x1024) ![256, 512] ![128, 128] inb_S512x1024_S128x128_256_512 y a)
  · exact fun y => opiece x0 x1 x2 x3 x4 x5 x6 x7 (sts (upd x1 x2 x4 x5 x8 x9) zeroS) 2 3 _ (fun a b => stp_at x1 x2 x4 x5 x8 x9 3 1 _ _ (fun a b => stp_at x1 x2 x4 x5 x8 x9 3 0 _ _ (fun a b => ldH_at zeroS 3 a b) a b) a b) y _ 256 384 rfl rfl (fun a => Rect.idx_unit_val (s := S512x1024) ![256, 384] ![128, 128] inb_S512x1024_S128x128_256_384 y a)
  · exact fun y => opiece x0 x1 x2 x3 x4 x5 x6 x7 (sts (upd x1 x2 x4 x5 x8 x9) zeroS) 2 2 _ (fun a b => stp_at x1 x2 x4 x5 x8 x9 2 1 _ _ (fun a b => stp_at x1 x2 x4 x5 x8 x9 2 0 _ _ (fun a b => ldH_at zeroS 2 a b) a b) a b) y _ 256 256 rfl rfl (fun a => Rect.idx_unit_val (s := S512x1024) ![256, 256] ![128, 128] inb_S512x1024_S128x128_256_256 y a)
  · exact fun y => opiece x0 x1 x2 x3 x4 x5 x6 x7 (sts (upd x1 x2 x4 x5 x8 x9) zeroS) 2 1 _ (fun a b => stp_at x1 x2 x4 x5 x8 x9 1 1 _ _ (fun a b => stp_at x1 x2 x4 x5 x8 x9 1 0 _ _ (fun a b => ldH_at zeroS 1 a b) a b) a b) y _ 256 128 rfl rfl (fun a => Rect.idx_unit_val (s := S512x1024) ![256, 128] ![128, 128] inb_S512x1024_S128x128_256_128 y a)
  · exact fun y => opiece x0 x1 x2 x3 x4 x5 x6 x7 (sts (upd x1 x2 x4 x5 x8 x9) zeroS) 2 0 _ (fun a b => stp_at x1 x2 x4 x5 x8 x9 0 1 _ _ (fun a b => stp_at x1 x2 x4 x5 x8 x9 0 0 _ _ (fun a b => ldH_at zeroS 0 a b) a b) a b) y _ 256 0 rfl rfl (fun a => Rect.idx_unit_val (s := S512x1024) ![256, 0] ![128, 128] inb_S512x1024_S128x128_256_0 y a)
  · exact fun y => opiece x0 x1 x2 x3 x4 x5 x6 x7 (sts (upd x1 x2 x4 x5 x8 x9) zeroS) 1 7 _ (fun a b => stp_at x1 x2 x4 x5 x8 x9 7 0 _ _ (fun a b => ldH_at zeroS 7 a b) a b) y _ 128 896 rfl rfl (fun a => Rect.idx_unit_val (s := S512x1024) ![128, 896] ![128, 128] inb_S512x1024_S128x128_128_896 y a)
  · exact fun y => opiece x0 x1 x2 x3 x4 x5 x6 x7 (sts (upd x1 x2 x4 x5 x8 x9) zeroS) 1 6 _ (fun a b => stp_at x1 x2 x4 x5 x8 x9 6 0 _ _ (fun a b => ldH_at zeroS 6 a b) a b) y _ 128 768 rfl rfl (fun a => Rect.idx_unit_val (s := S512x1024) ![128, 768] ![128, 128] inb_S512x1024_S128x128_128_768 y a)
  · exact fun y => opiece x0 x1 x2 x3 x4 x5 x6 x7 (sts (upd x1 x2 x4 x5 x8 x9) zeroS) 1 5 _ (fun a b => stp_at x1 x2 x4 x5 x8 x9 5 0 _ _ (fun a b => ldH_at zeroS 5 a b) a b) y _ 128 640 rfl rfl (fun a => Rect.idx_unit_val (s := S512x1024) ![128, 640] ![128, 128] inb_S512x1024_S128x128_128_640 y a)
  · exact fun y => opiece x0 x1 x2 x3 x4 x5 x6 x7 (sts (upd x1 x2 x4 x5 x8 x9) zeroS) 1 4 _ (fun a b => stp_at x1 x2 x4 x5 x8 x9 4 0 _ _ (fun a b => ldH_at zeroS 4 a b) a b) y _ 128 512 rfl rfl (fun a => Rect.idx_unit_val (s := S512x1024) ![128, 512] ![128, 128] inb_S512x1024_S128x128_128_512 y a)
  · exact fun y => opiece x0 x1 x2 x3 x4 x5 x6 x7 (sts (upd x1 x2 x4 x5 x8 x9) zeroS) 1 3 _ (fun a b => stp_at x1 x2 x4 x5 x8 x9 3 0 _ _ (fun a b => ldH_at zeroS 3 a b) a b) y _ 128 384 rfl rfl (fun a => Rect.idx_unit_val (s := S512x1024) ![128, 384] ![128, 128] inb_S512x1024_S128x128_128_384 y a)
  · exact fun y => opiece x0 x1 x2 x3 x4 x5 x6 x7 (sts (upd x1 x2 x4 x5 x8 x9) zeroS) 1 2 _ (fun a b => stp_at x1 x2 x4 x5 x8 x9 2 0 _ _ (fun a b => ldH_at zeroS 2 a b) a b) y _ 128 256 rfl rfl (fun a => Rect.idx_unit_val (s := S512x1024) ![128, 256] ![128, 128] inb_S512x1024_S128x128_128_256 y a)
  · exact fun y => opiece x0 x1 x2 x3 x4 x5 x6 x7 (sts (upd x1 x2 x4 x5 x8 x9) zeroS) 1 1 _ (fun a b => stp_at x1 x2 x4 x5 x8 x9 1 0 _ _ (fun a b => ldH_at zeroS 1 a b) a b) y _ 128 128 rfl rfl (fun a => Rect.idx_unit_val (s := S512x1024) ![128, 128] ![128, 128] inb_S512x1024_S128x128_128_128 y a)
  · exact fun y => opiece x0 x1 x2 x3 x4 x5 x6 x7 (sts (upd x1 x2 x4 x5 x8 x9) zeroS) 1 0 _ (fun a b => stp_at x1 x2 x4 x5 x8 x9 0 0 _ _ (fun a b => ldH_at zeroS 0 a b) a b) y _ 128 0 rfl rfl (fun a => Rect.idx_unit_val (s := S512x1024) ![128, 0] ![128, 128] inb_S512x1024_S128x128_128_0 y a)
  · exact fun y => opiece x0 x1 x2 x3 x4 x5 x6 x7 (sts (upd x1 x2 x4 x5 x8 x9) zeroS) 0 7 _ (fun a b => ldH_at zeroS 7 a b) y _ 0 896 rfl rfl (fun a => Rect.idx_unit_val (s := S512x1024) ![0, 896] ![128, 128] inb_S512x1024_S128x128_0_896 y a)
  · exact fun y => opiece x0 x1 x2 x3 x4 x5 x6 x7 (sts (upd x1 x2 x4 x5 x8 x9) zeroS) 0 6 _ (fun a b => ldH_at zeroS 6 a b) y _ 0 768 rfl rfl (fun a => Rect.idx_unit_val (s := S512x1024) ![0, 768] ![128, 128] inb_S512x1024_S128x128_0_768 y a)
  · exact fun y => opiece x0 x1 x2 x3 x4 x5 x6 x7 (sts (upd x1 x2 x4 x5 x8 x9) zeroS) 0 5 _ (fun a b => ldH_at zeroS 5 a b) y _ 0 640 rfl rfl (fun a => Rect.idx_unit_val (s := S512x1024) ![0, 640] ![128, 128] inb_S512x1024_S128x128_0_640 y a)
  · exact fun y => opiece x0 x1 x2 x3 x4 x5 x6 x7 (sts (upd x1 x2 x4 x5 x8 x9) zeroS) 0 4 _ (fun a b => ldH_at zeroS 4 a b) y _ 0 512 rfl rfl (fun a => Rect.idx_unit_val (s := S512x1024) ![0, 512] ![128, 128] inb_S512x1024_S128x128_0_512 y a)
  · exact fun y => opiece x0 x1 x2 x3 x4 x5 x6 x7 (sts (upd x1 x2 x4 x5 x8 x9) zeroS) 0 3 _ (fun a b => ldH_at zeroS 3 a b) y _ 0 384 rfl rfl (fun a => Rect.idx_unit_val (s := S512x1024) ![0, 384] ![128, 128] inb_S512x1024_S128x128_0_384 y a)
  · exact fun y => opiece x0 x1 x2 x3 x4 x5 x6 x7 (sts (upd x1 x2 x4 x5 x8 x9) zeroS) 0 2 _ (fun a b => ldH_at zeroS 2 a b) y _ 0 256 rfl rfl (fun a => Rect.idx_unit_val (s := S512x1024) ![0, 256] ![128, 128] inb_S512x1024_S128x128_0_256 y a)
  · exact fun y => opiece x0 x1 x2 x3 x4 x5 x6 x7 (sts (upd x1 x2 x4 x5 x8 x9) zeroS) 0 1 _ (fun a b => ldH_at zeroS 1 a b) y _ 0 128 rfl rfl (fun a => Rect.idx_unit_val (s := S512x1024) ![0, 128] ![128, 128] inb_S512x1024_S128x128_0_128 y a)
  · exact fun y => opiece x0 x1 x2 x3 x4 x5 x6 x7 (sts (upd x1 x2 x4 x5 x8 x9) zeroS) 0 0 _ (fun a b => ldH_at zeroS 0 a b) y _ 0 0 rfl rfl (fun a => Rect.idx_unit_val (s := S512x1024) ![0, 0] ![128, 128] inb_S512x1024_S128x128_0_0 y a)
  · exact View.cover_of_tiledL _ ![128, 128] (by rfl) j

end Cert.Proof.Ret

end
-- ==== Proof.RetArr.lean ====
/- THE RETENTION'S KERNEL: its tables and blocks at an index, the states it carries from block to block, and the array it
   leaves (`run_G`). -/
module

public import proofs.«01_k».proof.Proof.RetSpec
public import proofs.«01_k».proof.Proof.RetBlock
public import proofs.«01_k».proof.Proof.Gen.KernelIdeal.Value
public import Idealize.ShloMosaic.Lib.Pipeline.ValueKit
public import Idealize.ShloMosaic.Lib.Pipeline.ValueKit.Held
public import Idealize.ShloMosaic.Lib.Pipeline.ReadBack
public import Idealize.ShloMosaic.Lib.Pointwise
public import Idealize.ShloMosaic.Lib.Claim

@[expose] public section

set_option maxRecDepth 16384

noncomputable section

namespace Cert.Proof.Ret

open Idealize.ShloMosaic.Pointwise Cert.KernelIdeal Cert.KernelIdeal.Gen Cert.KernelIdeal.Value Idealize.ShloMosaic Idealize.ShloMosaic.TcCoe Idealize.SL.Sem

variable (m : (ℓ : Loc nD τ sig) → Buf (Elt Ideal) ℓ) (ρ : Dev nD → PrngReg)

/-! The tables the host computes, at an index. -/

theorem cos_at (c : Dev nD) (p : Fin 4096) (d : Fin 128) : (V m c main_v58 : FVec Ideal S4096x128 .f32) (ix2 p d) = cosT p.val d := by
  simp only [V, hostOps0, hostOps0_1, hostOps0_2, List.flatten_cons, List.flatten_nil, List.cons_append, List.nil_append, List.append_nil]; entry_read
  pointwise
  rfl

theorem sin_at (c : Dev nD) (p : Fin 4096) (d : Fin 128) : (V m c main_v62 : FVec Ideal S4096x128 .f32) (ix2 p d) = sinT p.val d := by
  simp only [V, hostOps0, hostOps0_1, hostOps0_2, List.flatten_cons, List.flatten_nil, List.cons_append, List.nil_append, List.append_nil]; entry_read
  pointwise
  rfl

theorem qh_at (c : Dev nD) (h : Fin 8) (p d : Fin 128) : (V m c main_v64 : FVec Ideal S8x128x128 .f32) (ix3 h p d) = qhT h p := by
  simp only [V, hostOps0, hostOps0_1, hostOps0_2, List.flatten_cons, List.flatten_nil, List.cons_append, List.nil_append, List.append_nil]; entry_read
  pointwise
  rfl

theorem kt_at (c : Dev nD) (h : Fin 8) (p d : Fin 128) : (V m c main_v66 : FVec Ideal S8x128x128 .f32) (ix3 h p d) = ktT h p := by
  simp only [V, hostOps0, hostOps0_1, hostOps0_2, List.flatten_cons, List.flatten_nil, List.cons_append, List.nil_append, List.append_nil]; entry_read
  pointwise
  rfl

theorem cd_at (c : Dev nD) (h p : Fin 8) (d : Fin 128) : (V m c main_v68 : FVec Ideal S8x8x128 .f32) (ix3 h p d) = cdT h := by
  simp only [V, hostOps0, hostOps0_1, hostOps0_2, List.flatten_cons, List.flatten_nil, List.cons_append, List.nil_append, List.append_nil]; entry_read
  pointwise
  rfl

theorem in_at (c : Dev nD) (h : Fin 8) (p d : Fin 128) : (V m c main_v24 : FVec Ideal S8x128x128 .f32) (ix3 h p d) = inT h p d := by
  simp only [V, hostOps0, hostOps0_1, hostOps0_2, List.flatten_cons, List.flatten_nil, List.cons_append, List.nil_append, List.append_nil]; entry_read
  simp only [StableHlo.TRef.ofBuf, StableHlo.TRef.toBuf, cast_eq]
  pointwise
  rfl

/-- Which block of its array each window holds at a point. -/
theorem idx : ∀ t : Fin cfg0.N, win0_0.index t = ![t.val, 0] ∧ win0_1.index t = ![t.val, 1] ∧ win0_2.index t = ![t.val, 2]
    ∧ win0_3.index t = ![t.val, 3] ∧ win0_4.index t = ![t.val % 8, 0] ∧ win0_5.index t = ![t.val % 8, 0]
    ∧ win0_6.index t = ![0, 0, 0] ∧ win0_7.index t = ![0, 0, 0] ∧ win0_8.index t = ![0, 0, 0] ∧ win0_9.index t = ![0, 0, 0]
    ∧ win0_10.index t = ![t.val, 0] := (by decide +kernel : ∀ t : Fin grid0.N, _)

/-! The blocks at an index. -/

theorem blk0 (c : Dev nD) (t : Fin cfg0.N) (h : Fin 8) (d : Fin 128) (ci : Fin 4) (i : Fin 128) :
    (iblk m c 0 t : FVec Ideal S512x1024 .f32) (ix2 (rw ci i) (cl h d))
      = (m ((c : Thread nD τ).loc main_arg0) : FVec Ideal S16384x17408 .f32) (ix2 (row (t.val / 8) (4 * (t.val % 8) + ci.val) i) (zc 0 h d)) := by
  have h0 := (idx t).1
  refine (show iblk m c 0 t (ix2 (rw ci i) (cl h d)) = V m c main_arg0 (((cfg0.win 0).blk t).view.emb (ix2 (rw ci i) (cl h d))) from rfl).trans ?_
  rw [V_main_arg0]
  have : t.val < 32 := t.isLt
  blk_ext [h0]

theorem blk1 (c : Dev nD) (t : Fin cfg0.N) (h : Fin 8) (d : Fin 128) (ci : Fin 4) (i : Fin 128) :
    (iblk m c 1 t : FVec Ideal S512x1024 .f32) (ix2 (rw ci i) (cl h d))
      = (m ((c : Thread nD τ).loc main_arg0) : FVec Ideal S16384x17408 .f32) (ix2 (row (t.val / 8) (4 * (t.val % 8) + ci.val) i) (zc 1 h d)) := by
  have h0 := (idx t).2.1
  refine (show iblk m c 1 t (ix2 (rw ci i) (cl h d)) = V m c main_arg0 (((cfg0.win 1).blk t).view.emb (ix2 (rw ci i) (cl h d))) from rfl).trans ?_
  rw [V_main_arg0]
  have : t.val < 32 := t.isLt
  blk_ext [h0]

theorem blk2 (c : Dev nD) (t : Fin cfg0.N) (h : Fin 8) (d : Fin 128) (ci : Fin 4) (i : Fin 128) :
    (iblk m c 2 t : FVec Ideal S512x1024 .f32) (ix2 (rw ci i) (cl h d))
      = (m ((c : Thread nD τ).loc main_arg0) : FVec Ideal S16384x17408 .f32) (ix2 (row (t.val / 8) (4 * (t.val % 8) + ci.val) i) (zc 2 h d)) := by
  have h0 := (idx t).2.2.1
  refine (show iblk m c 2 t (ix2 (rw ci i) (cl h d)) = V m c main_arg0 (((cfg0.win 2).blk t).view.emb (ix2 (rw ci i) (cl h d))) from rfl).trans ?_
  rw [V_main_arg0]
  have : t.val < 32 := t.isLt
  blk_ext [h0]

theorem blk3 (c : Dev nD) (t : Fin cfg0.N) (h : Fin 8) (d : Fin 128) (ci : Fin 4) (i : Fin 128) :
    (iblk m c 3 t : FVec Ideal S512x1024 .f32) (ix2 (rw ci i) (cl h d))
      = (m ((c : Thread nD τ).loc main_arg0) : FVec Ideal S16384x17408 .f32) (ix2 (row (t.val / 8) (4 * (t.val % 8) + ci.val) i) (zc 3 h d)) := by
  have h0 := (idx t).2.2.2.1
  refine (show iblk m c 3 t (ix2 (rw ci i) (cl h d)) = V m c main_arg0 (((cfg0.win 3).blk t).view.emb (ix2 (rw ci i) (cl h d))) from rfl).trans ?_
  rw [V_main_arg0]
  have : t.val < 32 := t.isLt
  blk_ext [h0]

theorem blk4 (c : Dev nD) (t : Fin cfg0.N) (d : Fin 128) (ci : Fin 4) (i : Fin 128) :
    (iblk m c 4 t : FVec Ideal S512x128 .f32) (ix2 (rw ci i) d) = cosT (128 * (4 * (t.val % 8) + ci.val) + i.val) d := by
  have h0 := (idx t).2.2.2.2.1
  have h1 : 128 * (4 * (t.val % 8) + ci.val) + i.val < 4096 := by omega
  refine (show iblk m c 4 t (ix2 (rw ci i) d) = V m c main_v58 (((cfg0.win 4).blk t).view.emb (ix2 (rw ci i) d)) from rfl).trans
    (Eq.trans ?_ (cos_at m c ⟨_, h1⟩ d))
  generalize V m c main_v58 = x
  blk_ext [h0]

theorem blk5 (c : Dev nD) (t : Fin cfg0.N) (d : Fin 128) (ci : Fin 4) (i : Fin 128) :
    (iblk m c 5 t : FVec Ideal S512x128 .f32) (ix2 (rw ci i) d) = sinT (128 * (4 * (t.val % 8) + ci.val) + i.val) d := by
  have h0 := (idx t).2.2.2.2.2.1
  have h1 : 128 * (4 * (t.val % 8) + ci.val) + i.val < 4096 := by omega
  refine (show iblk m c 5 t (ix2 (rw ci i) d) = V m c main_v62 (((cfg0.win 5).blk t).view.emb (ix2 (rw ci i) d)) from rfl).trans
    (Eq.trans ?_ (sin_at m c ⟨_, h1⟩ d))
  generalize V m c main_v62 = x
  blk_ext [h0]

theorem blk6 (c : Dev nD) (t : Fin cfg0.N) (h : Fin 8) (i : Fin 128) (d : Fin 128) :
    (iblk m c 6 t : FVec Ideal S8x128x128 .f32) (ix3 h i d) = inT h i d := by
  have h0 := (idx t).2.2.2.2.2.2.1
  refine (show iblk m c 6 t (ix3 h i d) = V m c main_v24 (((cfg0.win 6).blk t).view.emb (ix3 h i d)) from rfl).trans
    (Eq.trans ?_ (in_at m c h i d))
  generalize V m c main_v24 = x
  blk_ext [h0]

theorem blk7 (c : Dev nD) (t : Fin cfg0.N) (h : Fin 8) (i : Fin 128) (d : Fin 128) :
    (iblk m c 7 t : FVec Ideal S8x128x128 .f32) (ix3 h i d) = qhT h i := by
  have h0 := (idx t).2.2.2.2.2.2.2.1
  refine (show iblk m c 7 t (ix3 h i d) = V m c main_v64 (((cfg0.win 7).blk t).view.emb (ix3 h i d)) from rfl).trans
    (Eq.trans ?_ (qh_at m c h i d))
  generalize V m c main_v64 = x
  blk_ext [h0]

theorem blk8 (c : Dev nD) (t : Fin cfg0.N) (h : Fin 8) (i : Fin 128) (d : Fin 128) :
    (iblk m c 8 t : FVec Ideal S8x128x128 .f32) (ix3 h i d) = ktT h i := by
  have h0 := (idx t).2.2.2.2.2.2.2.2.1
  refine (show iblk m c 8 t (ix3 h i d) = V m c main_v66 (((cfg0.win 8).blk t).view.emb (ix3 h i d)) from rfl).trans
    (Eq.trans ?_ (kt_at m c h i d))
  generalize V m c main_v66 = x
  blk_ext [h0]

theorem blk9 (c : Dev nD) (t : Fin cfg0.N) (h : Fin 8) (i : Fin 8) (d : Fin 128) :
    (iblk m c 9 t : FVec Ideal S8x8x128 .f32) (ix3 h i d) = cdT h := by
  have h0 := (idx t).2.2.2.2.2.2.2.2.2.1
  refine (show iblk m c 9 t (ix3 h i d) = V m c main_v68 (((cfg0.win 9).blk t).view.emb (ix3 h i d)) from rfl).trans
    (Eq.trans ?_ (cd_at m c h i d))
  generalize V m c main_v68 = x
  blk_ext [h0]

/-- The array the retention reads. -/
abbrev Z (c : Dev nD) : FVec Ideal S16384x17408 .f32 := m ((c : Thread nD τ).loc main_arg0)

theorem key_eq (c : Dev nD) (t : Fin cfg0.N) (ci : Fin 4) (i : Fin 128) (h : Fin 8) (d : Fin 128) :
    keyB (iblk m c 1 t) (iblk m c 4 t) (iblk m c 5 t) (rw ci i) h d = kz (Z m c) (t.val / 8) (4 * (t.val % 8) + ci.val) i h d := by
  simp only [keyB, kz, blk1 m c t, blk4 m c t, blk5 m c t]

theorem qry_eq (c : Dev nD) (t : Fin cfg0.N) (ci : Fin 4) (i : Fin 128) (h : Fin 8) (d : Fin 128) :
    qryB (iblk m c 0 t) (iblk m c 4 t) (iblk m c 5 t) (rw ci i) h d = qz (Z m c) (t.val / 8) (4 * (t.val % 8) + ci.val) i h d := by
  simp only [qryB, qz, blk0 m c t, blk4 m c t, blk5 m c t]

/-- One chunk of a block takes the state before it to the state before the next. -/
theorem upd_eq (c : Dev nD) (t : Fin cfg0.N) (ci : Fin 4) (n : ℕ) (hn : n = 4 * (t.val % 8) + ci.val) (s : FVec Ideal S8x128x128 .f32)
    (hs : ∀ h a b, s (ix3 h a b) = st (Z m c) (t.val / 8) n h a b) (h : Fin 8) (a b : Fin 128) :
    upd (iblk m c 1 t) (iblk m c 2 t) (iblk m c 4 t) (iblk m c 5 t) (iblk m c 8 t) (iblk m c 9 t) ci s (ix3 h a b)
      = st (Z m c) (t.val / 8) (n + 1) h a b := by
  subst hn
  refine (show _ = s (ix3 h a b) * (iblk m c 9 t : FVec Ideal S8x8x128 .f32) (ix3 h 0 b)
    + ∑ i : Fin 128, keyB (iblk m c 1 t) (iblk m c 4 t) (iblk m c 5 t) (rw ci i) h a * (iblk m c 8 t : FVec Ideal S8x128x128 .f32) (ix3 h i a)
        * (iblk m c 2 t : FVec Ideal S512x1024 .f32) (ix2 (rw ci i) (cl h b)) from rfl).trans ?_
  simp only [hs, key_eq m c t, blk9 m c t, blk8 m c t, blk2 m c t]
  rfl

/-- The zero states. -/
theorem zeroS_at (b : ℕ) (z : FVec Ideal S16384x17408 .f32) (h : Fin 8) (a e : Fin 128) : zeroS (ix3 h a e) = st z b 0 h a e := by
  show (k0_pay2 : FVec Ideal S8x128x128 .f32) (ix3 h a e) = 0
  pointwise [k0_pay2]

/-- The states a block leaves: those before its sequence's next chunk. -/
theorem scr_eq (c : Dev nD) (n : ℕ) : ∀ hn : n < cfg0.N, ∀ h a b,
    ((outsAt0 m c n hn).2 : FVec Ideal S8x128x128 .f32) (ix3 h a b) = st (Z m c) (n / 8) (4 * (n % 8) + 4) h a b := by
  induction n with
  | zero =>
    intro hn h a b
    refine (scrA m c ⟨0, hn⟩ rfl (ix3 h a b)).trans ?_
    exact upd_eq m c ⟨0, hn⟩ 3 3 rfl _ (upd_eq m c ⟨0, hn⟩ 2 2 rfl _ (upd_eq m c ⟨0, hn⟩ 1 1 rfl _ (upd_eq m c ⟨0, hn⟩ 0 0 rfl _
      (zeroS_at 0 (Z m c))))) h a b
  | succ n ih =>
    intro hn h a b
    by_cases h8 : (n + 1) % 8 = 0
    · refine (scrA m c ⟨n + 1, hn⟩ h8 (ix3 h a b)).trans ?_
      have := upd_eq m c ⟨n + 1, hn⟩ 3 3 (by show 3 = 4 * ((n + 1) % 8) + 3; omega) _ (upd_eq m c ⟨n + 1, hn⟩ 2 2 (by show 2 = 4 * ((n + 1) % 8) + 2; omega) _
        (upd_eq m c ⟨n + 1, hn⟩ 1 1 (by show 1 = 4 * ((n + 1) % 8) + 1; omega) _ (upd_eq m c ⟨n + 1, hn⟩ 0 0 (by show 0 = 4 * ((n + 1) % 8) + 0; omega) _
        (zeroS_at _ (Z m c))))) h a b
      rw [h8]
      exact this
    · refine (scrB m c ⟨n + 1, hn⟩ h8 (ix3 h a b)).trans ?_
      have h0 : ∀ h a b, ((outsAt0 m c n (Nat.lt_of_succ_lt hn)).2 : FVec Ideal S8x128x128 .f32) (ix3 h a b)
          = st (Z m c) ((n + 1) / 8) (4 * ((n + 1) % 8)) h a b := fun h a b =>
        (ih (Nat.lt_of_succ_lt hn) h a b).trans (by rw [show n / 8 = (n + 1) / 8 by omega, show 4 * (n % 8) + 4 = 4 * ((n + 1) % 8) by omega])
      exact upd_eq m c ⟨n + 1, hn⟩ 3 _ rfl _ (upd_eq m c ⟨n + 1, hn⟩ 2 _ rfl _ (upd_eq m c ⟨n + 1, hn⟩ 1 _ rfl _ (upd_eq m c ⟨n + 1, hn⟩ 0 _ rfl _ h0))) h a b

/-- The states before each chunk of a block, from those before its first. -/
theorem sts_eq (c : Dev nD) (t : Fin cfg0.N) (s : FVec Ideal S8x128x128 .f32)
    (hs : ∀ h a b, s (ix3 h a b) = st (Z m c) (t.val / 8) (4 * (t.val % 8)) h a b) : ∀ (ci : Fin 4) (h : Fin 8) (a b : Fin 128),
    sts (upd (iblk m c 1 t) (iblk m c 2 t) (iblk m c 4 t) (iblk m c 5 t) (iblk m c 8 t) (iblk m c 9 t)) s ci (ix3 h a b)
      = st (Z m c) (t.val / 8) (4 * (t.val % 8) + ci.val) h a b := by
  have h1 := upd_eq m c t 0 _ rfl s hs
  have h2 := upd_eq m c t 1 _ rfl _ h1
  have h3 := upd_eq m c t 2 _ rfl _ h2
  exact Fin.forall_fin_succ.mpr ⟨hs, Fin.forall_fin_succ.mpr ⟨h1, Fin.forall_fin_two.mpr ⟨h2, h3⟩⟩⟩

/-- A block's output at chunk, row, head and column. -/
theorem outAt_eq (c : Dev nD) (t : Fin cfg0.N) (ci : Fin 4) (s : FVec Ideal S8x128x128 .f32)
    (hs : ∀ h a b, s (ix3 h a b) = st (Z m c) (t.val / 8) (4 * (t.val % 8) + ci.val) h a b) (h : Fin 8) (i b : Fin 128) :
    outAt (iblk m c 0 t) (iblk m c 1 t) (iblk m c 2 t) (iblk m c 3 t) (iblk m c 4 t) (iblk m c 5 t) (iblk m c 6 t) (iblk m c 7 t) s ci h i b
      = fz (Z m c) (t.val / 8) (4 * (t.val % 8) + ci.val) i h b := by
  have hr : ∀ l, ret (iblk m c 0 t) (iblk m c 1 t) (iblk m c 2 t) (iblk m c 4 t) (iblk m c 5 t) (iblk m c 6 t) (iblk m c 7 t) s ci h i l
      = oz (Z m c) (t.val / 8) (4 * (t.val % 8) + ci.val) i h l := fun l => by
    simp only [ret, hs, key_eq m c t, qry_eq m c t, blk6 m c t, blk7 m c t, blk2 m c t]
    rfl
  simp only [outAt, hr, blk3 m c t]
  rfl

/-- A block's output is its block of the layer's. -/
theorem out_eq (c : Dev nD) (t : Fin cfg0.N) (j : S512x1024.Idx) : ((outsAt0 m c t.val t.isLt).1 : FVec Ideal S512x1024 .bf16) j
    = fz (Z m c) (t.val / 8) (4 * (t.val % 8) + (j 0).val / 128) ⟨(j 0).val % 128, Nat.mod_lt _ (by decide)⟩
      ⟨(j 1).val / 128, by have : (j 1).val < 1024 := (j 1).isLt; omega⟩ ⟨(j 1).val % 128, Nat.mod_lt _ (by decide)⟩ := by
  by_cases h8 : t.val % 8 = 0
  · refine (outA m c t h8 j).trans ?_
    exact outAt_eq m c t _ _ (sts_eq m c t zeroS (fun h a b => by rw [h8]; exact zeroS_at _ _ h a b) _) _ _ _
  · refine (outB m c t h8 j).trans ?_
    have hp : t.val - 1 < cfg0.N := Nat.lt_of_le_of_lt (Nat.sub_le _ _) t.isLt
    exact outAt_eq m c t _ _ (sts_eq m c t _ (fun h a b => (scr_eq m c (t.val - 1) hp h a b).trans (by
      rw [show (t.val - 1) / 8 = t.val / 8 by omega, show 4 * ((t.val - 1) % 8) + 4 = 4 * (t.val % 8) by omega])) _) _ _ _

/-- The array the kernel leaves. -/
theorem final (c : Dev nD) : (dats m 0 c).arrAt 10 cfg0.N = G (Z m c) := by
  refine (dats m 0 c).arrAt_eq_of_covers 10 _ (by decide +kernel) fun t hf y => ?_
  have h0 := (idx t).2.2.2.2.2.2.2.2.2.2
  blk_simp
  rw [after0_10]
  obtain ⟨a, b, rfl⟩ : ∃ (a : Fin 512) (b : Fin 1024), y = ix2 a b := ⟨y 0, y 1, eq_ix2 y⟩
  have ht : t.val < 32 := t.isLt
  have e : ∀ f : FVec Ideal S16384x1024 .bf16, f ((win0_10.blk t).view.emb (ix2 a b)) = f (ix2 ⟨512 * t.val + a.val, by omega⟩ b) := by
    intro f
    blk_ext [h0]
  refine Eq.trans ?_ (e (G (Z m c))).symm
  refine (out_eq m c t (ix2 a b)).trans ?_
  show fz (Z m c) (t.val / 8) (4 * (t.val % 8) + a.val / 128) ⟨a.val % 128, _⟩ ⟨b.val / 128, _⟩ ⟨b.val % 128, _⟩
    = fz (Z m c) ((512 * t.val + a.val) / 4096) ((512 * t.val + a.val) % 4096 / 128) ⟨(512 * t.val + a.val) % 128, _⟩ ⟨b.val / 128, _⟩ ⟨b.val % 128, _⟩
  congr 1
  · omega
  · omega
  · exact Fin.ext (by show a.val % 128 = (512 * t.val + a.val) % 128; omega)

/-- The kernel's run with its result at `G`. -/
theorem run_G : θ_run defs (onTc (τ := τ) (main (F := Ideal))) ⟨m, fun _ => 0, ρ⟩ fun r => ∀ c : Dev nD,
      r.2.mem ((c : Thread nD τ).loc main_v69) = G (Z m c)
      ∧ r.2.mem ((c : Thread nD τ).loc main_arg0) = m ((c : Thread nD τ).loc main_arg0) :=
  (θ_run defs _ _).mono (fun r h c => ⟨(h c).1.trans (final m c), (h c).2⟩) (run_blocks m ρ)

end Cert.Proof.Ret

end
-- ==== Proof.RetRef.lean ====
/- THE REFERENCE RETENTION COMPUTES `G` of its argument: the state before every chunk by induction over the loop's trips, then the
   output; with the kernel's own result, their equality. -/
module

public import proofs.«01_k».proof.Proof.RetRefArr
public import proofs.«01_k».proof.Proof.RetArr
public import proofs.«01_k».proof.Defs
public import Idealize.ShloMosaic.Adequacy

@[expose] public section

set_option maxRecDepth 16384

noncomputable section

namespace Cert.Proof.RetRef

open Idealize.ShloMosaic.Pointwise Cert.ReferenceIdeal Cert.ReferenceIdeal.Gen Cert.ReferenceIdeal.Value Idealize.ShloMosaic Idealize.ShloMosaic.TcCoe Idealize.SL.Sem Idealize.ShloMosaic.StableHlo

open Cert.Proof.Ret (rotAt scl sf lg ang cosT sinT qhT ktT cdT inT row zc qz kz vz gz dst st oz fz G)

section
variable (n : Fin 32) (b : Fin 4) (h : Fin 8) (d e : Fin 128)

theorem slice_at (D : FVec Ideal S32x4x8x128x128 .f32) (s : Fin 5 → Int) (h0 : s 0 = n.val) (h1 : s 1 = 0) (h2 : s 2 = 0) (h3 : s 3 = 0) (h4 : s 4 = 0) :
    shapeCast S4x8x128x128 (Host.dynamicSlice S1x4x8x128x128 D s sliceFits_S32x4x8x128x128_S1x4x8x128x128) shapeCasts_S1x4x8x128x128_S4x8x128x128 (ix4 b h d e)
      = D (ix5 n b h d e) := by
  pointwise
  have c0 := Host.clampedStart_of_le (s := S32x4x8x128x128) (t := S1x4x8x128x128) rfl s 0 n.val h0 (show n.val + 1 ≤ 32 by omega)
  have c1 := Host.clampedStart_of_le (s := S32x4x8x128x128) (t := S1x4x8x128x128) rfl s 1 0 h1 (by decide)
  have c2 := Host.clampedStart_of_le (s := S32x4x8x128x128) (t := S1x4x8x128x128) rfl s 2 0 h2 (by decide)
  have c3 := Host.clampedStart_of_le (s := S32x4x8x128x128) (t := S1x4x8x128x128) rfl s 3 0 h3 (by decide)
  have c4 := Host.clampedStart_of_le (s := S32x4x8x128x128) (t := S1x4x8x128x128) rfl s 4 0 h4 (by decide)
  simp only [c0, c1, c2, c3, c4, Nat.zero_add]

theorem update_at (D : FVec Ideal S32x4x8x128x128 .f32) (x : FVec Ideal S4x8x128x128 .f32) (n' : Fin 32) (s : Fin 5 → Int)
    (h0 : s 0 = n.val) (h1 : s 1 = 0) (h2 : s 2 = 0) (h3 : s 3 = 0) (h4 : s 4 = 0) :
    (Host.dynamicUpdateSlice D (broadcastInDim S1x4x8x128x128 ![1, 2, 3, 4] bcast_S4x8x128x128_S1x4x8x128x128_1_2_3_4 x) s updateFits_S32x4x8x128x128_S1x4x8x128x128 : FVec Ideal S32x4x8x128x128 .f32) (ix5 n' b h d e)
      = if n' = n then x (ix4 b h d e) else D (ix5 n' b h d e) := by
  pointwise
  have c0 := Host.clampedStart_of_le (s := S32x4x8x128x128) (t := S1x4x8x128x128) rfl s 0 n.val h0 (show n.val + 1 ≤ 32 by omega)
  have c1 := Host.clampedStart_of_le (s := S32x4x8x128x128) (t := S1x4x8x128x128) rfl s 1 0 h1 (by decide)
  have c2 := Host.clampedStart_of_le (s := S32x4x8x128x128) (t := S1x4x8x128x128) rfl s 2 0 h2 (by decide)
  have c3 := Host.clampedStart_of_le (s := S32x4x8x128x128) (t := S1x4x8x128x128) rfl s 3 0 h3 (by decide)
  have c4 := Host.clampedStart_of_le (s := S32x4x8x128x128) (t := S1x4x8x128x128) rfl s 4 0 h4 (by decide)
  simp only [c0, c1, c2, c3, c4, Nat.sub_zero]
  by_cases hn : n' = n
  · subst hn
    rw [dif_pos ⟨⟨Nat.le_refl _, by omega⟩, ⟨by omega, by omega⟩, ⟨by omega, by omega⟩, ⟨by omega, by omega⟩, by omega, by omega⟩, if_pos rfl]
  · have := fun e => hn (Fin.ext e)
    rw [dif_neg (by omega), if_neg hn]

theorem decay_at (s : FVec Ideal S4x8x128x128 .f32) (t : FVec Ideal S1x8x1x1 .f32) :
    (mulf s (broadcastInDim S4x8x128x128 ![0, 1, 2, 3] bcast_S1x8x1x1_S4x8x128x128_0_1_2_3 t) : FVec Ideal S4x8x128x128 .f32) (ix4 b h d e)
      = s (ix4 b h d e) * t (ix4 0 h 0 0) := by
  pointwise

theorem iv_int : (Scf.iv 0#32 1#32 n.val).toInt = n.val := by revert n; decide

variable (V : Valuation τ sig (Elt Ideal))

/-- The state after a trip. -/
theorem step3 (s : FVec Ideal S4x8x128x128 .f32) (t : FVec Ideal S1x8x1x1 .f32) (D : FVec Ideal S32x4x8x128x128 .f32)
    (hs : V (Proc.devRef .tc main_v106_3) = s) (ht : V (Proc.devRef .tc main_v106_1) = t) (hD : V (Proc.devRef .tc main_v106_0) = D)
    (hc : V (Proc.devRef .tc main_v106_2) = fun _ => Scf.iv 0#32 1#32 n.val) :
    (step_main_v106_3 V : FVec Ideal S4x8x128x128 .f32) (ix4 b h d e) = s (ix4 b h d e) * t (ix4 0 h 0 0) + D (ix5 n b h d e) := by
  unfold step_main_v106_3
  rw [hs, ht, hD, hc]
  exact congrArg₂ (fun x y : EReal => x + y) (decay_at b h d e _ _) (slice_at n b h d e _ _ (iv_int n) rfl rfl rfl rfl)

/-- The states collected, after a trip. -/
theorem step4 (n' : Fin 32) (hc : V (Proc.devRef .tc main_v106_2) = fun _ => Scf.iv 0#32 1#32 n.val) :
    (step_main_v106_4 V : FVec Ideal S32x4x8x128x128 .f32) (ix5 n' b h d e)
      = if n' = n then (V (Proc.devRef .tc main_v106_3) : FVec Ideal S4x8x128x128 .f32) (ix4 b h d e)
        else (V (Proc.devRef .tc main_v106_4) : FVec Ideal S32x4x8x128x128 .f32) (ix5 n' b h d e) := by
  unfold step_main_v106_4
  exact update_at n b h d e _ _ n' _ (by rw [hc]; exact iv_int n) rfl rfl rfl rfl

theorem cd_at : (broadcastInDim S1x8x1x1 ![1] bcast_S8_S1x8x1x1_1 (Host.exp (mulf (broadcastInDim S8 ![] bcast_S_S8 (constant S_ .f32 0x43000000#32)) lgA)) : FVec Ideal S1x8x1x1 .f32)
    (ix4 0 h 0 0) = cdT h := by
  pointwise [lg_apply]
  rfl
theorem zero_at : (broadcastInDim S4x8x128x128 ![] bcast_S_S4x8x128x128 (constant S_ .f32 0x00000000#32) : FVec Ideal S4x8x128x128 .f32) (ix4 b h d e) = 0 := by
  pointwise
end

variable (m : (ℓ : Loc nD τ sig) → Buf (Elt Ideal) ℓ) (ρ : Dev nD → PrngReg)

/-- What the loop carries before trip `k`, from the contents before it. -/
abbrev W (c : Dev nD) (k : ℕ) : Valuation τ sig (Elt Ideal) := STEP^[k] (entryContents preI m c)

theorem W_succ (c : Dev nD) (k : ℕ) : W m c (k + 1) = STEP (W m c k) := Function.iterate_succ_apply' _ _ _

theorem W_ctr (c : Dev nD) (k : ℕ) : W m c k (Proc.devRef .tc main_v106_2) = fun _ => Scf.iv 0#32 1#32 k :=
  (atK_agree m c k main_v106_2 (by decide)).symm.trans (atK_ctr m c k)

theorem W_0 (c : Dev nD) : ∀ k, W m c k (Proc.devRef .tc main_v106_0) = entryContents preI m c (Proc.devRef .tc main_v106_0)
  | 0 => rfl
  | k + 1 => by rw [W_succ, STEP_main_v106_0, W_0 c k]
theorem W_1 (c : Dev nD) : ∀ k, W m c k (Proc.devRef .tc main_v106_1) = entryContents preI m c (Proc.devRef .tc main_v106_1)
  | 0 => rfl
  | k + 1 => by rw [W_succ, STEP_main_v106_1, W_1 c k]

/-- The state before chunk `k`. -/
theorem W_3 (c : Dev nD) (b : Fin 4) (h : Fin 8) (d e : Fin 128) : ∀ k ≤ 32,
    (W m c k (Proc.devRef .tc main_v106_3) : FVec Ideal S4x8x128x128 .f32) (ix4 b h d e) = st (Zr m c) b.val k h d e
  | 0, _ => by
    rw [show W m c 0 (Proc.devRef .tc main_v106_3) = entryContents preI m c (Proc.devRef .tc main_v106_3) from rfl, entry_v106_3]
    exact zero_at b h d e
  | k + 1, hk => by
    rw [W_succ, STEP_main_v106_3]
    refine (step3 ⟨k, hk⟩ b h d e (W m c k) _ _ _ rfl ((W_1 m c k).trans (entry_v106_1 m c)) ((W_0 m c k).trans (entry_v106_0 m c)) (W_ctr m c k)).trans ?_
    exact congrArg₂ (fun x y : EReal => x + y) (congrArg₂ (fun x y : EReal => x * y) (W_3 c b h d e k (Nat.le_of_succ_le hk)) (cd_at h))
      (dst_apply _ b ⟨k, hk⟩ h d e)

/-- The states collected before trip `k`. -/
theorem W_4 (c : Dev nD) (n : Fin 32) (b : Fin 4) (h : Fin 8) (d e : Fin 128) : ∀ k ≤ 32, n.val < k →
    (W m c k (Proc.devRef .tc main_v106_4) : FVec Ideal S32x4x8x128x128 .f32) (ix5 n b h d e) = st (Zr m c) b.val n.val h d e
  | 0, _, h0 => absurd h0 (Nat.not_lt_zero _)
  | k + 1, hk, hn => by
    rw [W_succ, STEP_main_v106_4]
    refine (step4 ⟨k, hk⟩ b h d e (W m c k) n (W_ctr m c k)).trans ?_
    by_cases hnk : n = ⟨k, hk⟩
    · subst hnk
      rw [if_pos rfl]
      exact W_3 m c b h d e k (Nat.le_of_succ_le hk)
    · rw [if_neg hnk]
      exact W_4 c n b h d e k (Nat.le_of_succ_le hk) (by have : n.val ≠ k := fun e => hnk (Fin.ext e); omega)

/-- A buffer the loop does not write. -/
theorem keep (c : Dev nD) (r : Ref sig .tc) (hr : r ∉ condOps_W ++ while0Ops0_W ++ while0Ops0_1_W ++ while0Ops0_2_W ++ while0Ops0_3_W) : ∀ k,
    after condOps (atK m k c) (Proc.devRef .tc r) = entryContents preI m c (Proc.devRef .tc r) := by
  simp only [List.mem_append, not_or] at hr
  obtain ⟨⟨⟨⟨r0, r1⟩, r2⟩, r3⟩, r4⟩ := hr
  have hcond : ∀ V : Valuation τ sig (Elt Ideal), after condOps V (Proc.devRef .tc r) = V (Proc.devRef .tc r) := fun V => after_of_writes_sub condOps V condOps_writes r0
  intro k
  rw [hcond]
  induction k with
  | zero => rfl
  | succ k ih =>
    rw [show atK m (k + 1) c = after while0Ops0_3 (after while0Ops0_2 (after while0Ops0_1 (after while0Ops0 (after condOps (atK m k c))))) from rfl]
    rw [after_of_writes_sub while0Ops0_3 _ while0Ops0_3_writes r4, after_of_writes_sub while0Ops0_2 _ while0Ops0_2_writes r3,
      after_of_writes_sub while0Ops0_1 _ while0Ops0_1_writes r2, after_of_writes_sub while0Ops0 _ while0Ops0_writes r1, hcond, ih]

theorem stack_at (c : Dev nD) (n : Fin 32) (b : Fin 4) (h : Fin 8) (d e : Fin 128) :
    (after condOps (atK m 32 c) (Proc.devRef .tc main_v106_4) : FVec Ideal S32x4x8x128x128 .f32) (ix5 n b h d e) = st (Zr m c) b.val n.val h d e := by
  rw [after_of_writes_sub condOps _ condOps_writes (by decide), atK_agree m c 32 main_v106_4 (by decide)]
  exact W_4 m c n b h d e 32 (Nat.le_refl _) n.isLt

theorem sum_at (z : FVec Ideal S16384x17408 .f32) (S : FVec Ideal S32x4x8x128x128 .f32) (hS : ∀ n b h d e, S (ix5 n b h d e) = st z (b : Fin 4).val (n : Fin 32).val h d e)
    (b : Fin 4) (t : Fin 4096) (h : Fin 8) (e : Fin 128) :
    sumA posA lgA (chunkA (rotA (col0 z))) (innA z) S (ix4 b t h e) = oz z b.val (t.val / 128) ⟨t.val % 128, Nat.mod_lt _ (by decide)⟩ h e := by
  unfold sumA
  refine (unchunk_apply b h e t _).trans ((cross_gen b _ _ h e _ _ _).trans ?_)
  simp only [inn_apply, qry_apply, hS]
  rfl

theorem out_at (z : FVec Ideal S16384x17408 .f32) (S : FVec Ideal S32x4x8x128x128 .f32) (hS : ∀ n b h d e, S (ix5 n b h d e) = st z (b : Fin 4).val (n : Fin 32).val h d e) :
    outA (sumA posA lgA (chunkA (rotA (col0 z))) (innA z) S) (col3 z) = G z := by
  funext j
  rw [eq_ix2 j]
  generalize hr : (j 0 : Fin 16384) = r
  generalize hl : (j 1 : Fin 1024) = l
  refine (unhead_apply (mulf (rmsA (sumA posA lgA (chunkA (rotA (col0 z))) (innA z) S)) (siluA (col3 z))) r l).trans ?_
  refine (congrArg₂ (fun x y : EReal => x * y) (rms_apply _ _ _ _ _) (silu_apply _ _ _ _ _)).trans ?_
  simp only [sum_at z S hS, col3_apply]
  have hg : ∀ (p : Fin 16384), p.val = r.val → p = row (r.val / 4096) (r.val % 4096 / 128) ⟨r.val % 128, Nat.mod_lt _ (by decide)⟩ := fun p hp =>
    Fin.ext (by show p.val = (4096 * (r.val / 4096) + 128 * (r.val % 4096 / 128) + r.val % 128) % 16384; omega)
  have hi : ∀ (hp), (⟨r.val % 4096 % 128, hp⟩ : Fin 128) = ⟨r.val % 128, Nat.mod_lt _ (by decide)⟩ := fun _ => Fin.ext (by simp only; omega)
  simp only [hi]
  rw [hg ⟨4096 * (r.val / 4096) + r.val % 4096, _⟩ (by simp only; omega)]
  rfl

/-- The reference's result. -/
theorem result (c : Dev nD) : finalContents condOps preI bodyI postI 32 m c (Proc.devRef .tc main_v136) = G (Zr m c) := by
  refine (post_v136 (after condOps (atK m 32 c))).trans ?_
  rw [keep m c main_v59 (by decide), keep m c main_v58 (by decide), keep m c main_v76 (by decide), keep m c main_v86 (by decide), keep m c main_v7 (by decide),
    entry_v59, entry_v58, entry_v76, entry_v86, entry_v7]
  exact out_at (Zr m c) _ (stack_at m c)

set_option maxHeartbeats 4000000 in
theorem result_arg (c : Dev nD) : finalContents condOps preI bodyI postI 32 m c (Proc.devRef .tc main_arg0) = m (c.tc.loc main_arg0) := by
  have hp : ∀ V : Valuation τ sig (Elt Ideal), afterL postI V (Proc.devRef .tc main_arg0) = V (Proc.devRef .tc main_arg0) := by
    intro V
    simp only [afterL_eq_after_flatten, postI, hostOps0_3, hostOps0_4, hostOps0_5, List.flatten_cons, List.flatten_nil, List.cons_append, List.nil_append, List.append_nil]
    after_reads_simp
  have he : entryContents preI m c (Proc.devRef .tc main_arg0) = m (c.tc.loc main_arg0) := by
    simp only [entryContents, afterL_eq_after_flatten, preI, hostOps0, hostOps0_1, hostOps0_2, List.flatten_cons, List.flatten_nil, List.cons_append, List.nil_append, List.append_nil]
    after_reads_simp
    try rfl
  exact (hp _).trans ((keep m c main_arg0 (by decide) 32).trans he)

/-- The reference's run with its result at `G`. -/
theorem run_ref : θ_run defs (onTc (τ := τ) (main (F := Ideal))) ⟨m, fun _ => 0, ρ⟩ fun r => ∀ c : Dev nD,
      r.2.mem ((c : Thread nD τ).loc main_v136) = G (Zr m c)
      ∧ r.2.mem ((c : Thread nD τ).loc main_arg0) = m ((c : Thread nD τ).loc main_arg0) :=
  (θ_run defs _ _).mono (fun r h c => ⟨(h c main_v136 rfl).trans (result m c), (h c main_arg0 rfl).trans (result_arg m c)⟩) (run_fold m ρ)

/-- The reference's frame, its program declaring no semaphore. -/
theorem frame_ref : Cert.quiescent_ReferenceIdeal := fun m ρ _ =>
  (θ_run _ _ _).mono (fun r h => ⟨fun c => (h c).2, sem_eq_zero_of_no_sems (by decide) r.2⟩) (run_ref m ρ)

/-- `algebraic` of the retention: both programs leave the same array. -/
theorem algebraic : Cert.algebraic_KernelIdeal_ReferenceIdeal := fun m ρ m' ρ' _ hag =>
  ⟨fun c => G (Cert.Proof.Ret.Z m c), Cert.Proof.Ret.run_G m ρ,
    (θ_run _ _ _).mono (fun _ h c => ⟨(h c).1.trans (congrArg G (hag c)), (h c).2⟩) (run_ref m' ρ')⟩

end Cert.Proof.RetRef

end
-- ==== Proof.Ffn.lean ====
/- THE DENSE FEED-FORWARD (Kernel2Ideal against Reference2Ideal): the kernel normalises a block of rows once, then adds,
   one stretch of 512 hidden units after another, that stretch's part of the down projection to the rows themselves; the
   reference adds the rows and one product over all 5632 hidden units. -/
module

public import proofs.«01_k».proof.Defs
public import proofs.«01_k».proof.Proof.Gen.Kernel2Ideal.Value
public import proofs.«01_k».proof.Proof.Gen.Reference2Ideal.Run
public import Idealize.ShloMosaic.Lib.Pipeline.ValueKit
public import Idealize.ShloMosaic.Lib.Pipeline.ValueKit.Held
public import Idealize.ShloMosaic.Lib.Pipeline.ReadBack
public import Idealize.ShloMosaic.Lib.Pointwise
public import Idealize.ShloMosaic.Lib.Claim

@[expose] public section

set_option maxRecDepth 16384

noncomputable section

namespace Cert.Proof.Ffn

open Idealize.ShloMosaic.Pointwise Cert.Kernel2Ideal Cert.Kernel2Ideal.Gen Cert.Kernel2Ideal.Value Idealize.ShloMosaic Idealize.ShloMosaic.TcCoe Idealize.SL.Sem

/-- Element `k` of row `r` after the norm: the row over its root mean square, times the norm's weight. -/
def hid (x : FVec Ideal S16384x2048 .f32) (nw : FVec Ideal S2048 .f32) (r : Fin 16384) (k : Fin 2048) : EReal :=
  x (ix2 r k) * Ideal.rsqrt (Ideal.div (∑ l : Fin 2048, x (ix2 r l) * x (ix2 r l)) (Ideal.ofBits FTy.f32 0x45000000#32)
    + Ideal.ofBits FTy.f32 0x358637BD#32) * nw (ix1 k)

/-- A row's product with column `q` of a weight. -/
def proj (x : FVec Ideal S16384x2048 .f32) (nw : FVec Ideal S2048 .f32) (w : FVec Ideal S2048x5632 .f32) (r : Fin 16384)
    (q : Fin 5632) : EReal := ∑ k : Fin 2048, hid x nw r k * w (ix2 k q)

/-- Hidden unit `q` of row `r`: the gate through silu, times the up projection. -/
def act (x : FVec Ideal S16384x2048 .f32) (nw : FVec Ideal S2048 .f32) (wg wu : FVec Ideal S2048x5632 .f32) (r : Fin 16384)
    (q : Fin 5632) : EReal := proj x nw wg r q * Ideal.logistic (proj x nw wg r q) * proj x nw wu r q

/-- The layer's result: the row, and its hidden units through the down projection. -/
def G (x : FVec Ideal S16384x2048 .f32) (nw : FVec Ideal S2048 .f32) (wg wu : FVec Ideal S2048x5632 .f32)
    (wd : FVec Ideal S5632x2048 .f32) : FVec Ideal S16384x2048 .f32 :=
  fun j => x j + ∑ q : Fin 5632, act x nw wg wu (j 0) q * wd (ix2 q (j 1))

/-- The norm of a block of rows, at an index. -/
theorem pay1_at (x : FVec Ideal S1024x2048 .f32) (g : FVec Ideal S1x2048 .f32) (i : Fin 1024) (k : Fin 2048) :
    (k0_pay1 x g : FVec Ideal S1024x2048 .bf16) (ix2 i k)
      = x (ix2 i k) * Ideal.rsqrt (Ideal.div (∑ l : Fin 2048, x (ix2 i l) * x (ix2 i l)) (Ideal.ofBits FTy.f32 0x45000000#32)
          + Ideal.ofBits FTy.f32 0x358637BD#32) * g (ix2 0 k) := by
  pointwise [k0_pay1]

/-- One stretch of hidden units added to what the block holds, at an index. -/
theorem pay2_at (h : FVec Ideal S1024x2048 .bf16) (wg wu : FVec Ideal S2048x512 .bf16) (a : FVec Ideal S1024x2048 .f32)
    (wd : FVec Ideal S512x2048 .bf16) (i : Fin 1024) (l : Fin 2048) :
    (k0_pay2 h wg wu a wd : FVec Ideal S1024x2048 .f32) (ix2 i l)
      = a (ix2 i l) + ∑ q : Fin 512, (∑ k : Fin 2048, h (ix2 i k) * wg (ix2 k q))
          * Ideal.logistic (∑ k : Fin 2048, h (ix2 i k) * wg (ix2 k q)) * (∑ k : Fin 2048, h (ix2 i k) * wu (ix2 k q))
          * wd (ix2 q l) := by
  pointwise [k0_pay2]

variable (m : (ℓ : Loc nD τ sig) → Buf (Elt Ideal) ℓ) (ρ : Dev nD → PrngReg)

/-- Where each window stands at each grid point: the row block `t / 11`, the stretch `t % 11`. -/
theorem idx : ∀ t : Fin cfg0.N, win0_0.index t = ![t.val / 11, 0] ∧ win0_1.index t = ![0, 0] ∧ win0_2.index t = ![0, t.val % 11]
    ∧ win0_3.index t = ![0, t.val % 11] ∧ win0_4.index t = ![t.val % 11, 0] ∧ win0_5.index t = ![t.val / 11, 0] :=
  (by decide +kernel : ∀ t : Fin grid0.N, _)

/-- The arguments, as launched. -/
abbrev X (c : Dev nD) : FVec Ideal S16384x2048 .f32 := m ((c : Thread nD τ).loc main_arg0)
abbrev NW (c : Dev nD) : FVec Ideal S2048 .f32 := m ((c : Thread nD τ).loc main_arg1)
abbrev WG (c : Dev nD) : FVec Ideal S2048x5632 .f32 := m ((c : Thread nD τ).loc main_arg2)
abbrev WU (c : Dev nD) : FVec Ideal S2048x5632 .f32 := m ((c : Thread nD τ).loc main_arg3)
abbrev WD (c : Dev nD) : FVec Ideal S5632x2048 .f32 := m ((c : Thread nD τ).loc main_arg4)

theorem N_eq : cfg0.N = 176 := N_0

/-- The row of the arrays that row `i` of point `t`'s block is, and the hidden unit that column `q` of its stretch is. -/
abbrev rowOf (t : Fin cfg0.N) (i : Fin 1024) : Fin 16384 := ⟨t.val / 11 * 1024 + i.val, by have := t.isLt; have := N_eq; omega⟩
abbrev unitOf (t : Fin cfg0.N) (q : Fin 512) : Fin 5632 := ⟨t.val % 11 * 512 + q.val, by omega⟩

/-- The blocks that a point reads, at an index. -/
theorem blk0 (c : Dev nD) (t : Fin cfg0.N) (i : Fin 1024) (k : Fin 2048) : iblk m c 0 t (ix2 i k) = X m c (ix2 (rowOf t i) k) := by
  obtain ⟨h0, h1, h2, h3, h4, h5⟩ := idx t
  refine (show iblk m c 0 t (ix2 i k) = V m c main_arg0 (((cfg0.win 0).blk t).view.emb (ix2 i k)) from rfl).trans ?_
  rw [V_main_arg0]
  blk_ext [h0]
theorem blk1 (c : Dev nD) (t : Fin cfg0.N) (k : Fin 2048) : iblk m c 1 t (ix2 0 k) = NW m c (ix1 k) := by
  obtain ⟨h0, h1, h2, h3, h4, h5⟩ := idx t
  refine (show iblk m c 1 t (ix2 0 k) = V m c main_v0 (((cfg0.win 1).blk t).view.emb (ix2 0 k)) from rfl).trans ?_
  entry_read
  pointwise
  blk_ext [h1]
theorem blk2 (c : Dev nD) (t : Fin cfg0.N) (k : Fin 2048) (q : Fin 512) : iblk m c 2 t (ix2 k q) = WG m c (ix2 k (unitOf t q)) := by
  obtain ⟨h0, h1, h2, h3, h4, h5⟩ := idx t
  refine (show iblk m c 2 t (ix2 k q) = V m c main_v1 (((cfg0.win 2).blk t).view.emb (ix2 k q)) from rfl).trans ?_
  entry_read
  pointwise
  blk_ext [h2]
theorem blk3 (c : Dev nD) (t : Fin cfg0.N) (k : Fin 2048) (q : Fin 512) : iblk m c 3 t (ix2 k q) = WU m c (ix2 k (unitOf t q)) := by
  obtain ⟨h0, h1, h2, h3, h4, h5⟩ := idx t
  refine (show iblk m c 3 t (ix2 k q) = V m c main_v2 (((cfg0.win 3).blk t).view.emb (ix2 k q)) from rfl).trans ?_
  entry_read
  pointwise
  blk_ext [h3]
theorem blk4 (c : Dev nD) (t : Fin cfg0.N) (q : Fin 512) (l : Fin 2048) : iblk m c 4 t (ix2 q l) = WD m c (ix2 (unitOf t q) l) := by
  obtain ⟨h0, h1, h2, h3, h4, h5⟩ := idx t
  refine (show iblk m c 4 t (ix2 q l) = V m c main_v3 (((cfg0.win 4).blk t).view.emb (ix2 q l)) from rfl).trans ?_
  entry_read
  pointwise
  blk_ext [h4]

/-- What the result's block and the scratch hold after a point that begins a row block, and after any other. -/
theorem outA (c : Dev nD) (t : Fin cfg0.N) (h : t.val % 11 = 0) : (outsAt0 m c t.val t.isLt).1
    = k0_pay2 (k0_pay1 (iblk m c 0 t) (iblk m c 1 t)) (iblk m c 2 t) (iblk m c 3 t) (iblk m c 0 t) (iblk m c 4 t) := by
  rw [outsAt0_A m c t h]
  frame_out
theorem scrA (c : Dev nD) (t : Fin cfg0.N) (h : t.val % 11 = 0) :
    (outsAt0 m c t.val t.isLt).2 = k0_pay1 (iblk m c 0 t) (iblk m c 1 t) := by
  rw [outsAt0_A m c t h]
  frame_out
theorem outB (c : Dev nD) (t : Fin cfg0.N) (h : ¬t.val % 11 = 0) : (outsAt0 m c t.val t.isLt).1
    = k0_pay2 (outsAt0 m c (t.val - 1) (Nat.lt_of_le_of_lt (Nat.sub_le _ _) t.isLt)).2 (iblk m c 2 t) (iblk m c 3 t)
        (outsAt0 m c (t.val - 1) (Nat.lt_of_le_of_lt (Nat.sub_le _ _) t.isLt)).1 (iblk m c 4 t) := by
  rw [outsAt0_B m c t h]
  frame_out
  simp only [read_unread_whole]
theorem scrB (c : Dev nD) (t : Fin cfg0.N) (h : ¬t.val % 11 = 0) :
    (outsAt0 m c t.val t.isLt).2 = (outsAt0 m c (t.val - 1) (Nat.lt_of_le_of_lt (Nat.sub_le _ _) t.isLt)).2 := by
  rw [outsAt0_B m c t h]
  rfl

/-- The scratch holds the norm of the point's rows. -/
theorem scr_at (c : Dev nD) (t : Fin cfg0.N) (i : Fin 1024) (k : Fin 2048) :
    (outsAt0 m c t.val t.isLt).2 (ix2 i k) = hid (X m c) (NW m c) (rowOf t i) k := by
  rw [Pipeline.eq_of_write_hold (fun n h => (outsAt0 m c n h).2) 11 (fun t => k0_pay1 (iblk m c 0 t) (iblk m c 1 t))
    (scrA m c) (scrB m c) t]
  refine (pay1_at _ _ i k).trans ?_
  unfold hid
  simp only [blk0, blk1]
  have e : rowOf ⟨11 * (t.val / 11), Pipeline.run_start_lt t⟩ i = rowOf t i := Fin.ext (by
    show 11 * (t.val / 11) / 11 * 1024 + i.val = t.val / 11 * 1024 + i.val; omega)
  rw [e]

/-- A stretch's part of the result. -/
def term (c : Dev nD) (t : Fin cfg0.N) (j : S1024x2048.Idx) : EReal :=
  ∑ q : Fin 512, act (X m c) (NW m c) (WG m c) (WU m c) (rowOf t (j 0)) (unitOf t q) * WD m c (ix2 (unitOf t q) (j 1))

/-- One stretch added, from a scratch that holds the norm of the point's rows. -/
theorem step_at (c : Dev nD) (t : Fin cfg0.N) (h : FVec Ideal S1024x2048 .bf16) (a : FVec Ideal S1024x2048 .f32)
    (hh : ∀ i k, h (ix2 i k) = hid (X m c) (NW m c) (rowOf t i) k) (j : S1024x2048.Idx) :
    (k0_pay2 h (iblk m c 2 t) (iblk m c 3 t) a (iblk m c 4 t) : FVec Ideal S1024x2048 .f32) j = a j + term m c t j := by
  obtain ⟨i, l, rfl⟩ : ∃ (i : Fin 1024) (l : Fin 2048), j = ix2 i l := ⟨j 0, j 1, eq_ix2 j⟩
  refine (pay2_at _ _ _ _ _ i l).trans ?_
  simp only [hh, blk2, blk3, blk4]
  rfl

/-- The result's block after the last stretch of its rows. -/
theorem out_at (c : Dev nD) (t : Fin cfg0.N) (h : t.val % 11 = 11 - 1) (i : Fin 1024) (l : Fin 2048) :
    (outsAt0 m c t.val t.isLt).1 (ix2 i l) = G (X m c) (NW m c) (WG m c) (WU m c) (WD m c) (ix2 (rowOf t i) l) := by
  have e := Pipeline.eq_sum_fin_of_reset_step_apply_of_flush (M := EReal) (fun n h (j : S1024x2048.Idx) => (outsAt0 m c n h).1 j) 11
    (fun _ => 0) (fun s j => (if s.val % 11 = 0 then X m c (ix2 (rowOf s (j 0)) (j 1)) else 0) + term m c s j)
    (fun s hs j => by
      rw [zero_add, if_pos hs, outA m c s hs]
      refine (step_at m c s _ _ (fun i k => by rw [← scrA m c s hs]; exact scr_at m c s i k) j).trans ?_
      obtain ⟨i, l, rfl⟩ : ∃ (i : Fin 1024) (l : Fin 2048), j = ix2 i l := ⟨j 0, j 1, eq_ix2 j⟩
      rw [blk0]; rfl)
    (fun s hs j => by
      rw [if_neg hs, zero_add, outB m c s hs]
      exact step_at m c s _ _ (fun i k => by rw [← scrB m c s hs]; exact scr_at m c s i k) j)
    t h (ix2 i l)
  refine e.trans ?_
  rw [zero_add, Finset.sum_add_distrib]
  unfold G
  have hN := N_eq
  have hr : ∀ (s : Fin 11) (hs : 11 * (t.val / 11) + s.val < cfg0.N), rowOf ⟨11 * (t.val / 11) + s.val, hs⟩ i = rowOf t i := fun s hs =>
    Fin.ext (by show (11 * (t.val / 11) + s.val) / 11 * 1024 + i.val = t.val / 11 * 1024 + i.val; omega)
  congr 1
  · rw [Finset.sum_eq_single (0 : Fin 11)]
    · rw [if_pos (by show (11 * (t.val / 11) + 0) % 11 = 0; omega)]
      exact congrArg (X m c) (congrArg (fun r => ix2 r l) (hr 0 _))
    · intro s _ hs
      rw [if_neg (by show ¬(11 * (t.val / 11) + s.val) % 11 = 0; have := Fin.val_ne_of_ne hs; have h0 : (0 : Fin 11).val = 0 := rfl; omega)]
    · intro hs; exact absurd (Finset.mem_univ _) hs
  · refine Fin.sum_mul_add_congr (L := 5632) (S := 11) (n := 512) fun s k hl => ?_
    have hu : unitOf ⟨11 * (t.val / 11) + s.val, Pipeline.run_point_lt_of_flush t h s⟩ k = ⟨s.val * 512 + k.val, hl⟩ :=
      Fin.ext (by show (11 * (t.val / 11) + s.val) % 11 * 512 + k.val = s.val * 512 + k.val; omega)
    show act (X m c) (NW m c) (WG m c) (WU m c) (rowOf _ i) (unitOf _ k) * WD m c (ix2 (unitOf _ k) l) = _
    rw [hr, hu]
    rfl

/-- The result array after the run. -/
theorem final (c : Dev nD) : (dats m 0 c).arrAt 5 cfg0.N = G (X m c) (NW m c) (WG m c) (WU m c) (WD m c) := by
  refine (dats m 0 c).arrAt_eq_of_covers 5 _ (by decide +kernel) fun t hf y => ?_
  obtain ⟨h0, h1, h2, h3, h4, h5⟩ := idx t
  blk_simp
  rw [after0_5]
  obtain ⟨a, b, rfl⟩ : ∃ (a : Fin 1024) (b : Fin 2048), y = ix2 a b := ⟨y 0, y 1, eq_ix2 y⟩
  refine (out_at m c t ((flush0_5 t).mp hf) a b).trans ?_
  blk_ext [h5]

/-- The kernel's run with its result at `G`. -/
theorem run : θ_run defs (onTc (τ := τ) (main (F := Ideal))) ⟨m, fun _ => 0, ρ⟩ fun r => ∀ c : Dev nD,
      r.2.mem ((c : Thread nD τ).loc main_v4) = G (X m c) (NW m c) (WG m c) (WU m c) (WD m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩) (run_blocks m ρ)

/-- The reference's run leaves `G` of its arguments. -/
theorem run_ref (m : (ℓ : Loc Cert.Reference2Ideal.nD Cert.Reference2Ideal.τ Cert.Reference2Ideal.sig) → Buf (Elt Ideal) ℓ)
    (ρ : Dev Cert.Reference2Ideal.nD → PrngReg) :
    θ_run Cert.Reference2Ideal.defs (onTc (τ := Cert.Reference2Ideal.τ) (Cert.Reference2Ideal.main (F := Ideal))) ⟨m, fun _ => 0, ρ⟩
      fun r => ∀ c : Dev Cert.Reference2Ideal.nD,
      r.2.mem ((c.tc : Thread Cert.Reference2Ideal.nD Cert.Reference2Ideal.τ).loc Cert.Reference2Ideal.main_v18)
        = G (m ((c.tc : Thread Cert.Reference2Ideal.nD Cert.Reference2Ideal.τ).loc Cert.Reference2Ideal.main_arg0))
            (m ((c.tc : Thread Cert.Reference2Ideal.nD Cert.Reference2Ideal.τ).loc Cert.Reference2Ideal.main_arg1))
            (m ((c.tc : Thread Cert.Reference2Ideal.nD Cert.Reference2Ideal.τ).loc Cert.Reference2Ideal.main_arg2))
            (m ((c.tc : Thread Cert.Reference2Ideal.nD Cert.Reference2Ideal.τ).loc Cert.Reference2Ideal.main_arg3))
            (m ((c.tc : Thread Cert.Reference2Ideal.nD Cert.Reference2Ideal.τ).loc Cert.Reference2Ideal.main_arg4))
      ∧ r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4) := by
  refine (θ_run _ _ _).mono (fun r h c => ⟨(h c).1.trans ?_, (h c).2⟩) (Cert.Reference2Ideal.Value.run m ρ)
  generalize m ((c.tc : Thread Cert.Reference2Ideal.nD Cert.Reference2Ideal.τ).loc Cert.Reference2Ideal.main_arg0) = x
  generalize m ((c.tc : Thread Cert.Reference2Ideal.nD Cert.Reference2Ideal.τ).loc Cert.Reference2Ideal.main_arg1) = nw
  generalize m ((c.tc : Thread Cert.Reference2Ideal.nD Cert.Reference2Ideal.τ).loc Cert.Reference2Ideal.main_arg2) = wg
  generalize m ((c.tc : Thread Cert.Reference2Ideal.nD Cert.Reference2Ideal.τ).loc Cert.Reference2Ideal.main_arg3) = wu
  generalize m ((c.tc : Thread Cert.Reference2Ideal.nD Cert.Reference2Ideal.τ).loc Cert.Reference2Ideal.main_arg4) = wd
  funext j
  obtain ⟨r, l, rfl⟩ : ∃ (r : Fin 16384) (l : Fin 2048), j = ix2 r l := ⟨j 0, j 1, eq_ix2 j⟩
  unfold G act proj hid
  pointwise
  rfl

/-- `algebraic` of the dense feed-forward: both programs leave the same array. -/
theorem algebraic : Cert.algebraic_Kernel2Ideal_Reference2Ideal := fun m ρ m' ρ' _ hag =>
  ⟨fun c => G (X m c) (NW m c) (WG m c) (WU m c) (WD m c), run m ρ,
    (θ_run _ _ _).mono (fun _ h c => ⟨(h c).1.trans (by
        rw [(hag c).1, (hag c).2.1, (hag c).2.2.1, (hag c).2.2.2.1, (hag c).2.2.2.2]), (h c).2⟩)
      (run_ref m' ρ')⟩

/-- The reference's frame, its program declaring no semaphore. -/
theorem frame_ref : Cert.quiescent_Reference2Ideal := fun m ρ _ =>
  (θ_run _ _ _).mono (fun r h => ⟨fun c => (h c).2, sem_eq_zero_of_no_sems (by decide) r.2⟩)
    (Cert.Reference2Ideal.Value.run m ρ)

end Cert.Proof.Ffn

end
-- ==== Proof.Proj.lean ====
/- THE INPUT PROJECTION (Kernel3Ideal against Reference3Ideal): the kernel's result array, block by block, is the matrix
   product of the hidden states with the columns of the weight that are kept, which is what the reference takes of the
   product with the whole weight. -/
module

public import proofs.«01_k».proof.Defs
public import proofs.«01_k».proof.Proof.Gen.Kernel3Ideal.Value
public import proofs.«01_k».proof.Proof.Gen.Reference3Ideal.Run
public import Idealize.ShloMosaic.Lib.Pipeline.ValueKit
public import Idealize.ShloMosaic.Lib.Pointwise
public import Idealize.ShloMosaic.Lib.Claim

@[expose] public section

set_option maxRecDepth 16384

noncomputable section

namespace Cert.Proof.Proj

open Idealize.ShloMosaic.Pointwise Cert.Kernel3Ideal Cert.Kernel3Ideal.Gen Cert.Kernel3Ideal.Value Idealize.ShloMosaic Idealize.ShloMosaic.TcCoe Idealize.SL.Sem

/-- The kept columns of the weight, side by side. -/
def kept (w : FVec Ideal S2048x17424 .f32) : FVec Ideal S2048x17408 .f32 :=
  concatenate S2048x17408 1 [⟨S2048x10240, extractStridedSlice S2048x10240 ![0, 0] w slices_S2048x17424_S2048x10240_0_0⟩,
    ⟨S2048x7168, extractStridedSlice S2048x7168 ![0, 10256] w slices_S2048x17424_S2048x7168_0_10256⟩]
    concatenates_S2048x10240_S2048x7168_S2048x17408_d1

/-- The product, element by element. -/
def G (x : FVec Ideal S16384x2048 .bf16) (w : FVec Ideal S2048x17424 .f32) : FVec Ideal S16384x17408 .f32 :=
  fun i => ∑ k : Fin 2048, x (ix2 (i 0) k) * kept w (ix2 k (i 1))

/-- One block of the product, at an index. -/
theorem pay_at (x : FVec Ideal S2048x2048 .bf16) (w : FVec Ideal S2048x1024 .bf16) (i : Fin 2048) (j : Fin 1024) :
    (k0_pay1 x w : FVec Ideal S2048x1024 .f32) (ix2 i j) = ∑ k : Fin 2048, x (ix2 i k) * w (ix2 k j) := by
  pointwise [k0_pay1]

variable (m : (ℓ : Loc nD τ sig) → Buf (Elt Ideal) ℓ) (ρ : Dev nD → PrngReg)

/-- Where the input windows stand, by where the output's stands. -/
theorem idx : ∀ t : Fin cfg0.N, win0_0.index t = ![win0_2.index t 0, 0] ∧ win0_1.index t = ![0, win0_2.index t 1] :=
  (by decide +kernel : ∀ t : Fin grid0.N, _)

/-- What the launch finds of the weight: the kept columns. -/
theorem entry (c : Dev nD) : V m c main_v3 = kept (m ((c : Thread nD τ).loc main_arg1)) := by
  entry_read
  rfl

/-- The result array after the run. -/
theorem final (c : Dev nD) : (dats m 0 c).arrAt 2 cfg0.N
    = G (m ((c : Thread nD τ).loc main_arg0)) (m ((c : Thread nD τ).loc main_arg1)) := by
  refine (dats m 0 c).arrAt_eq_of_covers 2 _ (by decide +kernel) fun t hf y => ?_
  blk_simp
  rw [after0_2]
  frame_out
  obtain ⟨a, b, rfl⟩ : ∃ (a : Fin 2048) (b : Fin 1024), y = ix2 a b := ⟨y 0, y 1, eq_ix2 y⟩
  refine (pay_at _ _ a b).trans ?_
  unfold G
  refine Finset.sum_congr rfl fun k _ => ?_
  obtain ⟨h0, h1⟩ := idx t
  congr 1
  · have e : iblk m c 0 t (ix2 a k) = V m c main_arg0 (((cfg0.win 0).blk t).view.emb (ix2 a k)) := rfl
    refine e.trans ?_
    rw [V_main_arg0]
    blk_ext [h0]
  · have e : iblk m c 1 t (ix2 k b) = V m c main_v3 (((cfg0.win 1).blk t).view.emb (ix2 k b)) := rfl
    refine e.trans ?_
    rw [entry]
    blk_ext [h1]

/-- The kernel's run with its result at the product. -/
theorem run : θ_run defs (onTc (τ := τ) (main (F := Ideal))) ⟨m, fun _ => 0, ρ⟩ fun r => ∀ c : Dev nD,
      r.2.mem ((c : Thread nD τ).loc main_v4) = G (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (run_blocks m ρ)

/-- The reference's composed term is the same product. -/
theorem ref_eq (x : FVec Ideal S16384x2048 .bf16) (w : FVec Ideal S2048x17424 .f32) :
    concatenate Cert.Reference3Ideal.S16384x17408 1
      [⟨Cert.Reference3Ideal.S16384x10240, extractStridedSlice Cert.Reference3Ideal.S16384x10240 ![0, 0]
          (Host.dotGeneral Cert.Reference3Ideal.dot_S16384x2048_S2048x17424_S16384x17424_1_0_0_1_n_n none
            (extf .f32 x Cert.Reference3Ideal.Gen.facts.bitsLt_bf16_f32) w) Cert.Reference3Ideal.Gen.facts.slices_S16384x17424_S16384x10240_0_0⟩,
       ⟨Cert.Reference3Ideal.S16384x7168, extractStridedSlice Cert.Reference3Ideal.S16384x7168 ![0, 10256]
          (Host.dotGeneral Cert.Reference3Ideal.dot_S16384x2048_S2048x17424_S16384x17424_1_0_0_1_n_n none
            (extf .f32 x Cert.Reference3Ideal.Gen.facts.bitsLt_bf16_f32) w) Cert.Reference3Ideal.Gen.facts.slices_S16384x17424_S16384x7168_0_10256⟩]
      Cert.Reference3Ideal.Gen.facts.concatenates_S16384x10240_S16384x7168_S16384x17408_d1 = G x w := by
  funext j
  idx_vars j
  unfold G kept
  pointwise
  split <;> rfl

/-- `algebraic` of the input projection: both programs leave the same array. -/
theorem algebraic : Cert.algebraic_Kernel3Ideal_Reference3Ideal := fun m ρ m' ρ' _ hag =>
  ⟨fun c => G (m ((c.tc : Thread nD τ).loc main_arg0)) (m ((c.tc : Thread nD τ).loc main_arg1)), run m ρ,
    (θ_run _ _ _).mono (fun _ h c => ⟨(h c).1.trans (by rw [(hag c).1, (hag c).2]; exact ref_eq _ _), (h c).2⟩)
      (Cert.Reference3Ideal.Value.run m' ρ')⟩

/-- The reference's frame, its program declaring no semaphore. -/
theorem frame_ref : Cert.quiescent_Reference3Ideal := fun m ρ _ =>
  (θ_run _ _ _).mono (fun r h => ⟨fun c => (h c).2, sem_eq_zero_of_no_sems (by decide) r.2⟩)
    (Cert.Reference3Ideal.Value.run m ρ)

end Cert.Proof.Proj

end
-- ==== Proof.Merge.lean ====
/- THE BRANCH MERGE (Kernel4Ideal against Reference4Ideal): each branch's rows through its own weight, times the logistic
   function of its gate, summed over the three branches. The kernel does so block by block, reading the gates' columns of
   the projected array where they lie; the reference cuts the gates out and takes whole products. -/
module

public import proofs.«01_k».proof.Defs
public import proofs.«01_k».proof.Proof.Gen.Kernel4Ideal.Value
public import proofs.«01_k».proof.Proof.Gen.Reference4Ideal.Run
public import Idealize.ShloMosaic.Lib.Pipeline.ValueKit
public import Idealize.ShloMosaic.Lib.Pointwise
public import Idealize.ShloMosaic.Lib.Claim

@[expose] public section

set_option maxRecDepth 16384

noncomputable section

namespace Cert.Proof.Merge

open Idealize.ShloMosaic.Pointwise Cert.Kernel4Ideal Cert.Kernel4Ideal.Gen Cert.Kernel4Ideal.Value Idealize.ShloMosaic Idealize.ShloMosaic.TcCoe Idealize.SL.Sem

/-- One branch at row `r` and column `l`: the logistic function of the gate that stands at column `g` of the projected
    array, times the branch's row through weight `b`. -/
def part (o : FVec Ideal S16384x1024 .bf16) (w : FVec Ideal S3x1024x2048 .f32) (z : FVec Ideal S16384x17408 .f32) (b : Fin 3)
    (r : Fin 16384) (l : Fin 2048) (g : Fin 17408) : EReal :=
  Ideal.logistic (z (ix2 r g)) * ∑ k : Fin 1024, o (ix2 r k) * w (ix3 b k l)

/-- The merged branches. -/
def G (o1 o2 o3 : FVec Ideal S16384x1024 .bf16) (w : FVec Ideal S3x1024x2048 .f32) (z : FVec Ideal S16384x17408 .f32) :
    FVec Ideal S16384x2048 .bf16 :=
  fun i => part o1 w z 0 (i 0) (i 1) ⟨11264 + (i 1).val, by have := (i 1).isLt; simp at this; omega⟩
    + part o2 w z 1 (i 0) (i 1) ⟨13312 + (i 1).val, by have := (i 1).isLt; simp at this; omega⟩
    + part o3 w z 2 (i 0) (i 1) ⟨15360 + (i 1).val, by have := (i 1).isLt; simp at this; omega⟩

/-- One block of the merged branches, at an index. -/
theorem pay_at (g1 : FVec Ideal S512x1024 .f32) (o1 : FVec Ideal S512x1024 .bf16) (w1 : FVec Ideal S1x1024x1024 .bf16)
    (g2 : FVec Ideal S512x1024 .f32) (o2 : FVec Ideal S512x1024 .bf16) (w2 : FVec Ideal S1x1024x1024 .bf16)
    (g3 : FVec Ideal S512x1024 .f32) (o3 : FVec Ideal S512x1024 .bf16) (w3 : FVec Ideal S1x1024x1024 .bf16)
    (i : Fin 512) (j : Fin 1024) :
    (k0_pay1 g1 o1 w1 g2 o2 w2 g3 o3 w3 : FVec Ideal S512x1024 .bf16) (ix2 i j)
      = Ideal.logistic (g1 (ix2 i j)) * (∑ k : Fin 1024, o1 (ix2 i k) * w1 (ix3 0 k j))
        + Ideal.logistic (g2 (ix2 i j)) * (∑ k : Fin 1024, o2 (ix2 i k) * w2 (ix3 0 k j))
        + Ideal.logistic (g3 (ix2 i j)) * (∑ k : Fin 1024, o3 (ix2 i k) * w3 (ix3 0 k j)) := by
  pointwise [k0_pay1]

variable (m : (ℓ : Loc nD τ sig) → Buf (Elt Ideal) ℓ) (ρ : Dev nD → PrngReg)

/-- Where each window stands at each grid point: the row block `t % 32`, the column block `t / 32`. -/
theorem idx : ∀ t : Fin cfg0.N, win0_0.index t = ![t.val % 32, 0] ∧ win0_1.index t = ![t.val % 32, 0]
    ∧ win0_2.index t = ![t.val % 32, 0] ∧ win0_3.index t = ![0, 0, t.val / 32] ∧ win0_4.index t = ![t.val % 32, 11 + t.val / 32]
    ∧ win0_5.index t = ![t.val % 32, 13 + t.val / 32] ∧ win0_6.index t = ![t.val % 32, 15 + t.val / 32]
    ∧ win0_7.index t = ![t.val % 32, t.val / 32] :=
  (by decide +kernel : ∀ t : Fin grid0.N, _)

theorem N_eq : cfg0.N = 64 := N_0

/-- The row and the column of the arrays that row `i` and column `j` of point `t`'s block are. -/
abbrev rowOf (t : Fin cfg0.N) (i : Fin 512) : Fin 16384 := ⟨t.val % 32 * 512 + i.val, by omega⟩
abbrev colOf (t : Fin cfg0.N) (j : Fin 1024) : Fin 2048 := ⟨t.val / 32 * 1024 + j.val, by have := t.isLt; have := N_eq; omega⟩

/-- The arguments, as launched. -/
abbrev O1 (c : Dev nD) : FVec Ideal S16384x1024 .bf16 := m ((c : Thread nD τ).loc main_arg0)
abbrev O2 (c : Dev nD) : FVec Ideal S16384x1024 .bf16 := m ((c : Thread nD τ).loc main_arg1)
abbrev O3 (c : Dev nD) : FVec Ideal S16384x1024 .bf16 := m ((c : Thread nD τ).loc main_arg2)
abbrev W (c : Dev nD) : FVec Ideal S3x1024x2048 .f32 := m ((c : Thread nD τ).loc main_arg3)
abbrev Z (c : Dev nD) : FVec Ideal S16384x17408 .f32 := m ((c : Thread nD τ).loc main_arg4)

/-- The blocks that a point reads, at an index. -/
theorem blk0 (c : Dev nD) (t : Fin cfg0.N) (a : Fin 512) (k : Fin 1024) : iblk m c 0 t (ix2 a k) = O1 m c (ix2 (rowOf t a) k) := by
  obtain ⟨h0, h1, h2, h3, h4, h5, h6, h7⟩ := idx t
  refine (show iblk m c 0 t (ix2 a k) = V m c main_arg0 (((cfg0.win 0).blk t).view.emb (ix2 a k)) from rfl).trans ?_
  rw [V_main_arg0]
  blk_ext [h0]
theorem blk1 (c : Dev nD) (t : Fin cfg0.N) (a : Fin 512) (k : Fin 1024) : iblk m c 1 t (ix2 a k) = O2 m c (ix2 (rowOf t a) k) := by
  obtain ⟨h0, h1, h2, h3, h4, h5, h6, h7⟩ := idx t
  refine (show iblk m c 1 t (ix2 a k) = V m c main_arg1 (((cfg0.win 1).blk t).view.emb (ix2 a k)) from rfl).trans ?_
  rw [V_main_arg1]
  blk_ext [h1]
theorem blk2 (c : Dev nD) (t : Fin cfg0.N) (a : Fin 512) (k : Fin 1024) : iblk m c 2 t (ix2 a k) = O3 m c (ix2 (rowOf t a) k) := by
  obtain ⟨h0, h1, h2, h3, h4, h5, h6, h7⟩ := idx t
  refine (show iblk m c 2 t (ix2 a k) = V m c main_arg2 (((cfg0.win 2).blk t).view.emb (ix2 a k)) from rfl).trans ?_
  rw [V_main_arg2]
  blk_ext [h2]
theorem blk3 (c : Dev nD) (t : Fin cfg0.N) (s : Fin 3) (k b : Fin 1024) :
    iblk m c 3 t (ix3 s k b) = W m c (ix3 s k (colOf t b)) := by
  obtain ⟨h0, h1, h2, h3, h4, h5, h6, h7⟩ := idx t
  refine (show iblk m c 3 t (ix3 s k b) = V m c main_v0 (((cfg0.win 3).blk t).view.emb (ix3 s k b)) from rfl).trans ?_
  entry_read
  pointwise
  blk_ext [h3]
theorem blk4 (c : Dev nD) (t : Fin cfg0.N) (a : Fin 512) (b : Fin 1024) :
    iblk m c 4 t (ix2 a b) = Z m c (ix2 (rowOf t a) ⟨11264 + (colOf t b).val, by have := (colOf t b).isLt; omega⟩) := by
  obtain ⟨h0, h1, h2, h3, h4, h5, h6, h7⟩ := idx t
  refine (show iblk m c 4 t (ix2 a b) = V m c main_arg4 (((cfg0.win 4).blk t).view.emb (ix2 a b)) from rfl).trans ?_
  rw [V_main_arg4]
  blk_ext [h4]
theorem blk5 (c : Dev nD) (t : Fin cfg0.N) (a : Fin 512) (b : Fin 1024) :
    iblk m c 5 t (ix2 a b) = Z m c (ix2 (rowOf t a) ⟨13312 + (colOf t b).val, by have := (colOf t b).isLt; omega⟩) := by
  obtain ⟨h0, h1, h2, h3, h4, h5, h6, h7⟩ := idx t
  refine (show iblk m c 5 t (ix2 a b) = V m c main_arg4 (((cfg0.win 5).blk t).view.emb (ix2 a b)) from rfl).trans ?_
  rw [V_main_arg4]
  blk_ext [h5]
theorem blk6 (c : Dev nD) (t : Fin cfg0.N) (a : Fin 512) (b : Fin 1024) :
    iblk m c 6 t (ix2 a b) = Z m c (ix2 (rowOf t a) ⟨15360 + (colOf t b).val, by have := (colOf t b).isLt; omega⟩) := by
  obtain ⟨h0, h1, h2, h3, h4, h5, h6, h7⟩ := idx t
  refine (show iblk m c 6 t (ix2 a b) = V m c main_arg4 (((cfg0.win 6).blk t).view.emb (ix2 a b)) from rfl).trans ?_
  rw [V_main_arg4]
  blk_ext [h6]

/-- The three slabs of the weight's block, as the body loads them. -/
theorem slab0 (x : S3x1024x1024.Idx → Elt Ideal .bf16) (k b : Fin 1024) :
    View.ld x r0_1 (show S1x1024x1024.Idx from ix3 0 k b) = x (ix3 0 k b) := by
  refine congrArg x (show r0_1.idx (show S1x1024x1024.Idx from ix3 0 k b) = ix3 0 k b from ?_)
  funext d
  refine Fin.ext ?_
  fin_cases d
  · show 0 + 1 * 0 = 0; rfl
  · show 0 + 1 * k.val = k.val; omega
  · show 0 + 1 * b.val = b.val; omega
theorem slab1 (x : S3x1024x1024.Idx → Elt Ideal .bf16) (k b : Fin 1024) :
    View.ld x r0_2 (show S1x1024x1024.Idx from ix3 0 k b) = x (ix3 1 k b) := by
  refine congrArg x (show r0_2.idx (show S1x1024x1024.Idx from ix3 0 k b) = ix3 1 k b from ?_)
  funext d
  refine Fin.ext ?_
  fin_cases d
  · show 1 + 1 * 0 = 1; rfl
  · show 0 + 1 * k.val = k.val; omega
  · show 0 + 1 * b.val = b.val; omega
theorem slab2 (x : S3x1024x1024.Idx → Elt Ideal .bf16) (k b : Fin 1024) :
    View.ld x r0_3 (show S1x1024x1024.Idx from ix3 0 k b) = x (ix3 2 k b) := by
  refine congrArg x (show r0_3.idx (show S1x1024x1024.Idx from ix3 0 k b) = ix3 2 k b from ?_)
  funext d
  refine Fin.ext ?_
  fin_cases d
  · show 2 + 1 * 0 = 2; rfl
  · show 0 + 1 * k.val = k.val; omega
  · show 0 + 1 * b.val = b.val; omega

/-- What a point writes back, at an index. -/
theorem out_at (c : Dev nD) (t : Fin cfg0.N) (a : Fin 512) (b : Fin 1024) :
    (k0_pay1 (iblk m c 4 t) (iblk m c 0 t) (View.ld (iblk m c 3 t) r0_1) (iblk m c 5 t) (iblk m c 1 t) (View.ld (iblk m c 3 t) r0_2)
        (iblk m c 6 t) (iblk m c 2 t) (View.ld (iblk m c 3 t) r0_3) : FVec Ideal S512x1024 .bf16) (ix2 a b)
      = G (O1 m c) (O2 m c) (O3 m c) (W m c) (Z m c) (ix2 (rowOf t a) (colOf t b)) := by
  refine (pay_at _ _ _ _ _ _ _ _ _ a b).trans ?_
  unfold G part
  have s0 : ∀ k : Fin 1024, View.ld (iblk m c 3 t) r0_1 (show S1x1024x1024.Idx from ix3 0 k b) = W m c (ix3 0 k (colOf t b)) :=
    fun k => (slab0 _ k b).trans (blk3 m c t 0 k b)
  have s1 : ∀ k : Fin 1024, View.ld (iblk m c 3 t) r0_2 (show S1x1024x1024.Idx from ix3 0 k b) = W m c (ix3 1 k (colOf t b)) :=
    fun k => (slab1 _ k b).trans (blk3 m c t 1 k b)
  have s2 : ∀ k : Fin 1024, View.ld (iblk m c 3 t) r0_3 (show S1x1024x1024.Idx from ix3 0 k b) = W m c (ix3 2 k (colOf t b)) :=
    fun k => (slab2 _ k b).trans (blk3 m c t 2 k b)
  rw [blk4, blk5, blk6]
  simp only [blk0, blk1, blk2]
  refine congrArg₂ (· + ·) (congrArg₂ (· + ·) (congrArg₂ (· * ·) rfl ?_) (congrArg₂ (· * ·) rfl ?_)) (congrArg₂ (· * ·) rfl ?_)
  · exact Finset.sum_congr rfl fun k _ => congrArg (O1 m c (ix2 (rowOf t a) k) * ·) (s0 k)
  · exact Finset.sum_congr rfl fun k _ => congrArg (O2 m c (ix2 (rowOf t a) k) * ·) (s1 k)
  · exact Finset.sum_congr rfl fun k _ => congrArg (O3 m c (ix2 (rowOf t a) k) * ·) (s2 k)

/-- The result array after the run. -/
theorem final (c : Dev nD) : (dats m 0 c).arrAt 7 cfg0.N = G (O1 m c) (O2 m c) (O3 m c) (W m c) (Z m c) := by
  refine (dats m 0 c).arrAt_eq_of_covers 7 _ (by decide +kernel) fun t hf y => ?_
  obtain ⟨h0, h1, h2, h3, h4, h5, h6, h7⟩ := idx t
  blk_simp
  rw [after0_7]
  frame_out
  obtain ⟨a, b, rfl⟩ : ∃ (a : Fin 512) (b : Fin 1024), y = ix2 a b := ⟨y 0, y 1, eq_ix2 y⟩
  refine (out_at m c t a b).trans ?_
  blk_ext [h7]

/-- The kernel's run with its result at the merged branches. -/
theorem run : θ_run defs (onTc (τ := τ) (main (F := Ideal))) ⟨m, fun _ => 0, ρ⟩ fun r => ∀ c : Dev nD,
      r.2.mem ((c : Thread nD τ).loc main_v1) = G (O1 m c) (O2 m c) (O3 m c) (W m c) (Z m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩) (run_blocks m ρ)

/-- The reference's run leaves the merged branches of its arguments. -/
theorem run_ref (m : (ℓ : Loc Cert.Reference4Ideal.nD Cert.Reference4Ideal.τ Cert.Reference4Ideal.sig) → Buf (Elt Ideal) ℓ)
    (ρ : Dev Cert.Reference4Ideal.nD → PrngReg) :
    θ_run Cert.Reference4Ideal.defs (onTc (τ := Cert.Reference4Ideal.τ) (Cert.Reference4Ideal.main (F := Ideal))) ⟨m, fun _ => 0, ρ⟩
      fun r => ∀ c : Dev Cert.Reference4Ideal.nD,
      r.2.mem ((c.tc : Thread Cert.Reference4Ideal.nD Cert.Reference4Ideal.τ).loc Cert.Reference4Ideal.main_v40)
        = G (m ((c.tc : Thread Cert.Reference4Ideal.nD Cert.Reference4Ideal.τ).loc Cert.Reference4Ideal.main_arg0))
            (m ((c.tc : Thread Cert.Reference4Ideal.nD Cert.Reference4Ideal.τ).loc Cert.Reference4Ideal.main_arg1))
            (m ((c.tc : Thread Cert.Reference4Ideal.nD Cert.Reference4Ideal.τ).loc Cert.Reference4Ideal.main_arg2))
            (m ((c.tc : Thread Cert.Reference4Ideal.nD Cert.Reference4Ideal.τ).loc Cert.Reference4Ideal.main_arg3))
            (m ((c.tc : Thread Cert.Reference4Ideal.nD Cert.Reference4Ideal.τ).loc Cert.Reference4Ideal.main_arg4))
      ∧ r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4) := by
  refine (θ_run _ _ _).mono (fun r h c => ⟨(h c).1.trans ?_, (h c).2⟩) (Cert.Reference4Ideal.Value.run m ρ)
  generalize m ((c.tc : Thread Cert.Reference4Ideal.nD Cert.Reference4Ideal.τ).loc Cert.Reference4Ideal.main_arg0) = o1
  generalize m ((c.tc : Thread Cert.Reference4Ideal.nD Cert.Reference4Ideal.τ).loc Cert.Reference4Ideal.main_arg1) = o2
  generalize m ((c.tc : Thread Cert.Reference4Ideal.nD Cert.Reference4Ideal.τ).loc Cert.Reference4Ideal.main_arg2) = o3
  generalize m ((c.tc : Thread Cert.Reference4Ideal.nD Cert.Reference4Ideal.τ).loc Cert.Reference4Ideal.main_arg3) = w
  generalize m ((c.tc : Thread Cert.Reference4Ideal.nD Cert.Reference4Ideal.τ).loc Cert.Reference4Ideal.main_arg4) = z
  funext j
  obtain ⟨r, l, rfl⟩ : ∃ (r : Fin 16384) (l : Fin 2048), j = ix2 r l := ⟨j 0, j 1, eq_ix2 j⟩
  unfold G part
  pointwise
  rfl

/-- `algebraic` of the branch merge: both programs leave the same array. -/
theorem algebraic : Cert.algebraic_Kernel4Ideal_Reference4Ideal := fun m ρ m' ρ' _ hag =>
  ⟨fun c => G (O1 m c) (O2 m c) (O3 m c) (W m c) (Z m c), run m ρ,
    (θ_run _ _ _).mono (fun _ h c => ⟨(h c).1.trans (by
        rw [(hag c).1, (hag c).2.1, (hag c).2.2.1, (hag c).2.2.2.1, (hag c).2.2.2.2]), (h c).2⟩)
      (run_ref m' ρ')⟩

/-- The reference's frame, its program declaring no semaphore. -/
theorem frame_ref : Cert.quiescent_Reference4Ideal := fun m ρ _ =>
  (θ_run _ _ _).mono (fun r h => ⟨fun c => (h c).2, sem_eq_zero_of_no_sems (by decide) r.2⟩)
    (Cert.Reference4Ideal.Value.run m ρ)

end Cert.Proof.Merge

end
-- ==== Proof.Out.lean ====
/- THE OUTPUT PROJECTION (Kernel5Ideal against Reference5Ideal): the kernel's result array, block by block, is the row
   itself and the merged branches' product with the weight, which is what the reference computes at once. -/
module

public import proofs.«01_k».proof.Defs
public import proofs.«01_k».proof.Proof.Gen.Kernel5Ideal.Value
public import proofs.«01_k».proof.Proof.Gen.Reference5Ideal.Run
public import Idealize.ShloMosaic.Lib.Pipeline.ValueKit
public import Idealize.ShloMosaic.Lib.Pointwise
public import Idealize.ShloMosaic.Lib.Claim

@[expose] public section

set_option maxRecDepth 16384

noncomputable section

namespace Cert.Proof.Out

open Idealize.ShloMosaic.Pointwise Cert.Kernel5Ideal Cert.Kernel5Ideal.Gen Cert.Kernel5Ideal.Value Idealize.ShloMosaic Idealize.ShloMosaic.TcCoe Idealize.SL.Sem

/-- The residual and the product, element by element. -/
def G (a : FVec Ideal S16384x2048 .bf16) (w : FVec Ideal S2048x2048 .f32) (x : FVec Ideal S16384x2048 .f32) :
    FVec Ideal S16384x2048 .f32 :=
  fun i => x i + ∑ k : Fin 2048, a (ix2 (i 0) k) * w (ix2 k (i 1))

/-- One block of the result, at an index. -/
theorem pay_at (x : FVec Ideal S1024x1024 .f32) (a : FVec Ideal S1024x2048 .bf16) (w : FVec Ideal S2048x1024 .bf16)
    (i : Fin 1024) (j : Fin 1024) :
    (k0_pay1 x a w : FVec Ideal S1024x1024 .f32) (ix2 i j) = x (ix2 i j) + ∑ k : Fin 2048, a (ix2 i k) * w (ix2 k j) := by
  pointwise [k0_pay1]

variable (m : (ℓ : Loc nD τ sig) → Buf (Elt Ideal) ℓ) (ρ : Dev nD → PrngReg)

/-- Where the input windows stand, by where the output's stands. -/
theorem idx : ∀ t : Fin cfg0.N, win0_0.index t = ![win0_3.index t 0, 0] ∧ win0_1.index t = ![0, win0_3.index t 1]
    ∧ win0_2.index t = ![win0_3.index t 0, win0_3.index t 1] :=
  (by decide +kernel : ∀ t : Fin grid0.N, _)

/-- The arguments, as launched. -/
abbrev A (c : Dev nD) : FVec Ideal S16384x2048 .bf16 := m ((c : Thread nD τ).loc main_arg0)
abbrev W (c : Dev nD) : FVec Ideal S2048x2048 .f32 := m ((c : Thread nD τ).loc main_arg1)
abbrev X (c : Dev nD) : FVec Ideal S16384x2048 .f32 := m ((c : Thread nD τ).loc main_arg2)

/-- The result array after the run. -/
theorem final (c : Dev nD) : (dats m 0 c).arrAt 3 cfg0.N = G (A m c) (W m c) (X m c) := by
  refine (dats m 0 c).arrAt_eq_of_covers 3 _ (by decide +kernel) fun t hf y => ?_
  blk_simp
  rw [after0_3]
  frame_out
  obtain ⟨a, b, rfl⟩ : ∃ (a : Fin 1024) (b : Fin 1024), y = ix2 a b := ⟨y 0, y 1, eq_ix2 y⟩
  refine (pay_at _ _ _ a b).trans ?_
  unfold G
  obtain ⟨h0, h1, h2⟩ := idx t
  congr 1
  refine Finset.sum_congr rfl fun k _ => ?_
  congr 1
  · have e : iblk m c 0 t (ix2 a k) = V m c main_arg0 (((cfg0.win 0).blk t).view.emb (ix2 a k)) := rfl
    refine e.trans ?_
    rw [V_main_arg0]
    blk_ext [h0]
  · have e : iblk m c 1 t (ix2 k b) = V m c main_v0 (((cfg0.win 1).blk t).view.emb (ix2 k b)) := rfl
    refine e.trans ?_
    entry_read
    pointwise
    blk_ext [h1]

/-- The kernel's run with its result at `G`. -/
theorem run : θ_run defs (onTc (τ := τ) (main (F := Ideal))) ⟨m, fun _ => 0, ρ⟩ fun r => ∀ c : Dev nD,
      r.2.mem ((c : Thread nD τ).loc main_v1) = G (A m c) (W m c) (X m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (run_blocks m ρ)

/-- The reference's composed term is the same array. -/
theorem ref_eq (a : FVec Ideal S16384x2048 .bf16) (w : FVec Ideal S2048x2048 .f32) (x : FVec Ideal S16384x2048 .f32) :
    addf x (Host.dotGeneral Cert.Reference5Ideal.dot_S16384x2048_S2048x2048_S16384x2048_1_0_0_1_n_n none
      (extf .f32 a Cert.Reference5Ideal.Gen.facts.bitsLt_bf16_f32) w) = G a w x := by
  funext j
  idx_vars j
  unfold G
  pointwise

/-- `algebraic` of the output projection: both programs leave the same array. -/
theorem algebraic : Cert.algebraic_Kernel5Ideal_Reference5Ideal := fun m ρ m' ρ' _ hag =>
  ⟨fun c => G (A m c) (W m c) (X m c), run m ρ,
    (θ_run _ _ _).mono (fun _ h c => ⟨(h c).1.trans (by rw [(hag c).1, (hag c).2.1, (hag c).2.2]; exact ref_eq _ _ _), (h c).2⟩)
      (Cert.Reference5Ideal.Value.run m' ρ')⟩

/-- The reference's frame, its program declaring no semaphore. -/
theorem frame_ref : Cert.quiescent_Reference5Ideal := fun m ρ _ =>
  (θ_run _ _ _).mono (fun r h => ⟨fun c => (h c).2, sem_eq_zero_of_no_sems (by decide) r.2⟩)
    (Cert.Reference5Ideal.Value.run m ρ)

end Cert.Proof.Out

end
-- ==== Proof.Norm.lean ====
/- THE NORM BEFORE THE PROJECTION AND THE SMALL COLUMNS (Kernel6Ideal against Reference6Ideal): each row over its root mean
   square, times the norm's weight, and that row's product with the 16 columns of the input weight that become the gated
   delta rule's gates: once as rows padded to 128 columns, once as columns. -/
module

public import proofs.«01_k».proof.Defs
public import proofs.«01_k».proof.Proof.Gen.Kernel6Ideal.Value
public import proofs.«01_k».proof.Proof.Gen.Reference6Ideal.Run
public import Idealize.ShloMosaic.Lib.Pipeline.ValueKit
public import Idealize.ShloMosaic.Lib.Pointwise
public import Idealize.ShloMosaic.Lib.Claim

@[expose] public section

set_option maxRecDepth 16384

noncomputable section

namespace Cert.Proof.Norm

open Idealize.ShloMosaic.Pointwise Cert.Kernel6Ideal Cert.Kernel6Ideal.Gen Cert.Kernel6Ideal.Value Idealize.ShloMosaic Idealize.ShloMosaic.TcCoe Idealize.SL.Sem

/-- Element `k` of row `r` after the norm: the row over its root mean square, times the norm's weight. -/
def hid (x : FVec Ideal S16384x2048 .f32) (nw : FVec Ideal S2048 .f32) (r : Fin 16384) (k : Fin 2048) : EReal :=
  x (ix2 r k) * Ideal.rsqrt (Ideal.div (∑ l : Fin 2048, x (ix2 r l) * x (ix2 r l)) (Ideal.ofBits FTy.f32 0x45000000#32)
    + Ideal.ofBits FTy.f32 0x358637BD#32) * nw (ix1 k)

/-- Entry `(k, q)` of the 16 small columns, padded with zeros to 128. -/
def padw (w : FVec Ideal S2048x17424 .f32) (k : Fin 2048) (q : Fin 128) : EReal :=
  if q.val < 16 then w (ix2 k ⟨10240 + q.val, by omega⟩) else 0

/-- The integer zero, as a float, is zero. -/
theorem sitofp_zero : (FloatOps.sitofp (F := Ideal) FTy.f32 (0#32) : EReal) = 0 := by
  show (((0#32 : BitVec 32).toInt : ℝ) : EReal) = 0
  simp

/-- A normalised row's product with one column of a weight. -/
def small (x : FVec Ideal S16384x2048 .f32) (nw : FVec Ideal S2048 .f32) (col : Fin 2048 → EReal) (r : Fin 16384) : EReal :=
  ∑ k : Fin 2048, hid x nw r k * col k

/-- The three results: the normalised rows, their small columns padded to 128, and their small columns as rows. -/
def G1 (x : FVec Ideal S16384x2048 .f32) (nw : FVec Ideal S2048 .f32) : FVec Ideal S16384x2048 .bf16 :=
  fun i => hid x nw (i 0) (i 1)
def G2 (x : FVec Ideal S16384x2048 .f32) (nw : FVec Ideal S2048 .f32) (w : FVec Ideal S2048x17424 .f32) : FVec Ideal S16384x128 .f32 :=
  fun i => small x nw (fun k => padw w k (i 1)) (i 0)
def G3 (x : FVec Ideal S16384x2048 .f32) (nw : FVec Ideal S2048 .f32) (w : FVec Ideal S2048x17424 .f32) : FVec Ideal S16x16384 .f32 :=
  fun i => small x nw (fun k => padw w k ⟨(i 0).val, lt_trans (i 0).isLt (by decide)⟩) (i 1)

/-- The norm of a block of rows, at an index. -/
theorem pay1_at (x : FVec Ideal S512x2048 .f32) (g : FVec Ideal S1x2048 .f32) (i : Fin 512) (k : Fin 2048) :
    (k0_pay1 x g : FVec Ideal S512x2048 .bf16) (ix2 i k)
      = x (ix2 i k) * Ideal.rsqrt (Ideal.div (∑ l : Fin 2048, x (ix2 i l) * x (ix2 i l)) (Ideal.ofBits FTy.f32 0x45000000#32)
          + Ideal.ofBits FTy.f32 0x358637BD#32) * g (ix2 0 k) := by
  pointwise [k0_pay1]

/-- The products of a block of normalised rows, at an index. -/
theorem pay2_at (x : FVec Ideal S512x2048 .f32) (g : FVec Ideal S1x2048 .f32) (w : FVec Ideal S2048x128 .bf16) (i : Fin 512) (q : Fin 128) :
    (k0_pay2 x g w : FVec Ideal S512x128 .f32) (ix2 i q)
      = ∑ k : Fin 2048, (k0_pay1 x g : FVec Ideal S512x2048 .bf16) (ix2 i k) * w (ix2 k q) := by
  unfold k0_pay2
  generalize (k0_pay1 x g : FVec Ideal S512x2048 .bf16) = h
  pointwise
theorem pay3_at (x : FVec Ideal S512x2048 .f32) (g : FVec Ideal S1x2048 .f32) (w : FVec Ideal S16x2048 .bf16) (q : Fin 16) (i : Fin 512) :
    (k0_pay3 x g w : FVec Ideal S16x512 .f32) (ix2 q i)
      = ∑ k : Fin 2048, w (ix2 q k) * (k0_pay1 x g : FVec Ideal S512x2048 .bf16) (ix2 i k) := by
  unfold k0_pay3
  generalize (k0_pay1 x g : FVec Ideal S512x2048 .bf16) = h
  pointwise

variable (m : (ℓ : Loc nD τ sig) → Buf (Elt Ideal) ℓ) (ρ : Dev nD → PrngReg)

/-- Where each window stands at each grid point. -/
theorem idx : ∀ t : Fin cfg0.N, win0_0.index t = ![t.val, 0] ∧ win0_1.index t = ![0, 0] ∧ win0_2.index t = ![0, 0]
    ∧ win0_3.index t = ![0, 0] ∧ win0_4.index t = ![t.val, 0] ∧ win0_5.index t = ![t.val, 0] ∧ win0_6.index t = ![0, t.val] :=
  (by decide +kernel : ∀ t : Fin grid0.N, _)

theorem N_eq : cfg0.N = 32 := N_0

/-- The row of the arrays that row `i` of point `t`'s block is. -/
abbrev rowOf (t : Fin cfg0.N) (i : Fin 512) : Fin 16384 := ⟨t.val * 512 + i.val, by have := t.isLt; have := N_eq; omega⟩

/-- The arguments, as launched. -/
abbrev X (c : Dev nD) : FVec Ideal S16384x2048 .f32 := m ((c : Thread nD τ).loc main_arg0)
abbrev NW (c : Dev nD) : FVec Ideal S2048 .f32 := m ((c : Thread nD τ).loc main_arg1)
abbrev W (c : Dev nD) : FVec Ideal S2048x17424 .f32 := m ((c : Thread nD τ).loc main_arg2)

/-- The blocks that a point reads, at an index. -/
theorem blk0 (c : Dev nD) (t : Fin cfg0.N) (i : Fin 512) (k : Fin 2048) : iblk m c 0 t (ix2 i k) = X m c (ix2 (rowOf t i) k) := by
  obtain ⟨h0, h1, h2, h3, h4, h5, h6⟩ := idx t
  refine (show iblk m c 0 t (ix2 i k) = V m c main_arg0 (((cfg0.win 0).blk t).view.emb (ix2 i k)) from rfl).trans ?_
  rw [V_main_arg0]
  blk_ext [h0]
theorem blk1 (c : Dev nD) (t : Fin cfg0.N) (k : Fin 2048) : iblk m c 1 t (ix2 0 k) = NW m c (ix1 k) := by
  obtain ⟨h0, h1, h2, h3, h4, h5, h6⟩ := idx t
  refine (show iblk m c 1 t (ix2 0 k) = V m c main_v3 (((cfg0.win 1).blk t).view.emb (ix2 0 k)) from rfl).trans ?_
  simp only [V, hostOps0, hostOps0_1, hostOps0_2, List.flatten_cons, List.flatten_nil, List.cons_append, List.nil_append, List.append_nil]; entry_read
  pointwise
  blk_ext [h1]
theorem blk2 (c : Dev nD) (t : Fin cfg0.N) (k : Fin 2048) (q : Fin 128) : iblk m c 2 t (ix2 k q) = padw (W m c) k q := by
  obtain ⟨h0, h1, h2, h3, h4, h5, h6⟩ := idx t
  refine (show iblk m c 2 t (ix2 k q) = V m c main_v2 (((cfg0.win 2).blk t).view.emb (ix2 k q)) from rfl).trans ?_
  have e : ((cfg0.win 2).blk t).view.emb (ix2 k q) = ix2 k q := by blk_ext [h2]
  rw [e]
  simp only [V, hostOps0, hostOps0_1, hostOps0_2, List.flatten_cons, List.flatten_nil, List.cons_append, List.nil_append, List.append_nil]; entry_read
  refine (show _ = (pad S2048x128 ![0, 0] ![0, 112] ![0, 0] (extractStridedSlice S2048x16 ![0, 10240] (W m c) slices_S2048x17424_S2048x16_0_10240)
    (sitofp .f32 (constantI S_ 32 0#32)) pads_S2048x16_S2048x128_000_01120 h_S_ : FVec Ideal S2048x128 .f32) (ix2 k q) from rfl).trans ?_
  generalize W m c = w
  unfold padw
  pointwise
  by_cases hq : q.val < 16
  · simp only [dif_pos hq, if_pos hq]
  · simp only [dif_neg hq, if_neg hq, sitofp_zero]
theorem blk3 (c : Dev nD) (t : Fin cfg0.N) (q : Fin 16) (k : Fin 2048) :
    iblk m c 3 t (ix2 q k) = padw (W m c) k ⟨q.val, by omega⟩ := by
  obtain ⟨h0, h1, h2, h3, h4, h5, h6⟩ := idx t
  refine (show iblk m c 3 t (ix2 q k) = V m c main_v5 (((cfg0.win 3).blk t).view.emb (ix2 q k)) from rfl).trans ?_
  have e : ((cfg0.win 3).blk t).view.emb (ix2 q k) = ix2 q k := by blk_ext [h3]
  rw [e]
  simp only [V, hostOps0, hostOps0_1, hostOps0_2, List.flatten_cons, List.flatten_nil, List.cons_append, List.nil_append, List.append_nil]; entry_read
  unfold padw
  rw [if_pos q.isLt]
  pointwise

/-- The norm of the point's rows, at an index. -/
theorem hid_at (c : Dev nD) (t : Fin cfg0.N) (i : Fin 512) (k : Fin 2048) :
    (k0_pay1 (iblk m c 0 t) (iblk m c 1 t) : FVec Ideal S512x2048 .bf16) (ix2 i k) = hid (X m c) (NW m c) (rowOf t i) k := by
  refine (pay1_at _ _ i k).trans ?_
  unfold hid
  simp only [blk0, blk1]

/-- The three result arrays after the run. -/
theorem final1 (c : Dev nD) : (dats m 0 c).arrAt 4 cfg0.N = G1 (X m c) (NW m c) := by
  refine (dats m 0 c).arrAt_eq_of_covers 4 _ (by decide +kernel) fun t hf y => ?_
  obtain ⟨h0, h1, h2, h3, h4, h5, h6⟩ := idx t
  blk_simp
  rw [after0_4]
  frame_out
  obtain ⟨a, b, rfl⟩ : ∃ (a : Fin 512) (b : Fin 2048), y = ix2 a b := ⟨y 0, y 1, eq_ix2 y⟩
  refine (hid_at m c t a b).trans ((show _ = G1 (X m c) (NW m c) (ix2 (rowOf t a) b) from rfl).trans ?_)
  blk_ext [h4]
theorem final2 (c : Dev nD) : (dats m 0 c).arrAt 5 cfg0.N = G2 (X m c) (NW m c) (W m c) := by
  refine (dats m 0 c).arrAt_eq_of_covers 5 _ (by decide +kernel) fun t hf y => ?_
  obtain ⟨h0, h1, h2, h3, h4, h5, h6⟩ := idx t
  blk_simp
  rw [after0_5]
  frame_out
  obtain ⟨a, b, rfl⟩ : ∃ (a : Fin 512) (b : Fin 128), y = ix2 a b := ⟨y 0, y 1, eq_ix2 y⟩
  have e : (k0_pay2 (iblk m c 0 t) (iblk m c 1 t) (iblk m c 2 t) : FVec Ideal S512x128 .f32) (ix2 a b)
      = G2 (X m c) (NW m c) (W m c) (ix2 (rowOf t a) b) :=
    (pay2_at _ _ _ a b).trans (Finset.sum_congr rfl fun k _ => congrArg₂ (· * ·) (hid_at m c t a k) (blk2 m c t k b))
  refine e.trans ?_
  blk_ext [h5]
theorem final3 (c : Dev nD) : (dats m 0 c).arrAt 6 cfg0.N = G3 (X m c) (NW m c) (W m c) := by
  refine (dats m 0 c).arrAt_eq_of_covers 6 _ (by decide +kernel) fun t hf y => ?_
  obtain ⟨h0, h1, h2, h3, h4, h5, h6⟩ := idx t
  blk_simp
  rw [after0_6]
  frame_out
  obtain ⟨q, a, rfl⟩ : ∃ (q : Fin 16) (a : Fin 512), y = ix2 q a := ⟨y 0, y 1, eq_ix2 y⟩
  have e : (k0_pay3 (iblk m c 0 t) (iblk m c 1 t) (iblk m c 3 t) : FVec Ideal S16x512 .f32) (ix2 q a)
      = G3 (X m c) (NW m c) (W m c) (ix2 q (rowOf t a)) :=
    (pay3_at _ _ _ q a).trans (Finset.sum_congr rfl fun k _ =>
      (mul_comm _ _).trans (congrArg₂ (· * ·) (hid_at m c t a k) (blk3 m c t q k)))
  refine e.trans ?_
  blk_ext [h6]

/-- The kernel's run with its results named. -/
theorem run : θ_run defs (onTc (τ := τ) (main (F := Ideal))) ⟨m, fun _ => 0, ρ⟩ fun r => ∀ c : Dev nD,
      r.2.mem ((c : Thread nD τ).loc main_v6_0) = G1 (X m c) (NW m c)
      ∧ r.2.mem ((c : Thread nD τ).loc main_v6_1) = G2 (X m c) (NW m c) (W m c)
      ∧ r.2.mem ((c : Thread nD τ).loc main_v6_2) = G3 (X m c) (NW m c) (W m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final1 m c), (h c).2.1.trans (final2 m c), (h c).2.2.1.trans (final3 m c),
    (h c).2.2.2⟩) (run_blocks m ρ)

/-- The reference's normalised rows, as composed. -/
def refH (x : FVec Ideal S16384x2048 .f32) (nw : FVec Ideal S2048 .f32) : FVec Ideal S16384x2048 .f32 :=
  mulf (mulf x (broadcastInDim Cert.Reference6Ideal.S16384x2048 ![0, 1] Cert.Reference6Ideal.Gen.facts.bcast_S16384x1_S16384x2048_0_1
    (Host.rsqrt (addf (Host.divf (broadcastInDim Cert.Reference6Ideal.S16384x1 ![0] Cert.Reference6Ideal.Gen.facts.bcast_S16384_S16384x1_0
      (Host.reduceAdd (mulf x x) (constant Cert.Reference6Ideal.S_ .f32 0x00000000#32)
        Cert.Reference6Ideal.Gen.facts.reducesTo_S16384x2048_S16384_d1 Cert.Reference6Ideal.Gen.facts.h_S_))
      (broadcastInDim Cert.Reference6Ideal.S16384x1 ![] Cert.Reference6Ideal.Gen.facts.bcast_S_S16384x1 (constant Cert.Reference6Ideal.S_ .f32 0x45000000#32)))
      (broadcastInDim Cert.Reference6Ideal.S16384x1 ![] Cert.Reference6Ideal.Gen.facts.bcast_S_S16384x1 (constant Cert.Reference6Ideal.S_ .f32 0x358637BD#32))))))
    (broadcastInDim Cert.Reference6Ideal.S16384x2048 ![0, 1] Cert.Reference6Ideal.Gen.facts.bcast_S1x2048_S16384x2048_0_1
      (broadcastInDim Cert.Reference6Ideal.S1x2048 ![1] Cert.Reference6Ideal.Gen.facts.bcast_S2048_S1x2048_1 nw))

theorem refH_at (x : FVec Ideal S16384x2048 .f32) (nw : FVec Ideal S2048 .f32) (r : Fin 16384) (k : Fin 2048) :
    refH x nw (ix2 r k) = hid x nw r k := by
  unfold refH hid
  pointwise

/-- The 16 columns of a product with the whole weight, at an index, padded and turned. -/
theorem ref2_at (h : FVec Ideal S16384x2048 .f32) (w : FVec Ideal S2048x17424 .f32) (r : Fin 16384) (q : Fin 128) :
    (pad Cert.Reference6Ideal.S16384x128 ![0, 0] ![0, 112] ![0, 0] (extractStridedSlice Cert.Reference6Ideal.S16384x16 ![0, 10240]
      (Host.dotGeneral Cert.Reference6Ideal.dot_S16384x2048_S2048x17424_S16384x17424_1_0_0_1_n_n none h w)
      Cert.Reference6Ideal.Gen.facts.slices_S16384x17424_S16384x16_0_10240) (sitofp .f32 (constantI Cert.Reference6Ideal.S_ 32 0#32))
      Cert.Reference6Ideal.Gen.facts.pads_S16384x16_S16384x128_000_01120 Cert.Reference6Ideal.Gen.facts.h_S_ : FVec Ideal S16384x128 .f32) (ix2 r q)
      = ∑ k : Fin 2048, h (ix2 r k) * padw w k q := by
  unfold padw
  pointwise
  by_cases hq : q.val < 16
  · simp only [dif_pos hq, if_pos hq]
  · simp only [dif_neg hq, if_neg hq, mul_zero, Finset.sum_const_zero, sitofp_zero]
theorem ref3_at (h : FVec Ideal S16384x2048 .f32) (w : FVec Ideal S2048x17424 .f32) (q : Fin 16) (r : Fin 16384) :
    (transpose Cert.Reference6Ideal.S16x16384 [1, 0] (extractStridedSlice Cert.Reference6Ideal.S16384x16 ![0, 10240]
      (Host.dotGeneral Cert.Reference6Ideal.dot_S16384x2048_S2048x17424_S16384x17424_1_0_0_1_n_n none h w)
      Cert.Reference6Ideal.Gen.facts.slices_S16384x17424_S16384x16_0_10240)
      Cert.Reference6Ideal.Gen.facts.transposes_S16384x16_S16x16384_1_0 : FVec Ideal S16x16384 .f32) (ix2 q r)
      = ∑ k : Fin 2048, h (ix2 r k) * padw w k ⟨q.val, by omega⟩ := by
  unfold padw
  simp only [if_pos q.isLt]
  pointwise

/-- `algebraic` of the norm and the small columns: both programs leave the same three arrays. -/
theorem algebraic : Cert.algebraic_Kernel6Ideal_Reference6Ideal := fun m ρ m' ρ' _ hag =>
  ⟨fun c => G1 (X m c) (NW m c), fun c => G2 (X m c) (NW m c) (W m c), fun c => G3 (X m c) (NW m c) (W m c), run m ρ,
    (θ_run _ _ _).mono (fun _ h c => by
      obtain ⟨e1, e2, e3, e4⟩ := h c
      rw [(hag c).1, (hag c).2.1] at e1
      rw [(hag c).1, (hag c).2.1, (hag c).2.2] at e2 e3
      refine ⟨e1.trans ?_, e2.trans ?_, e3.trans ?_, e4⟩
      · funext i
        obtain ⟨r, k, rfl⟩ : ∃ (r : Fin 16384) (k : Fin 2048), i = ix2 r k := ⟨i 0, i 1, eq_ix2 i⟩
        exact refH_at _ _ r k
      · funext i
        obtain ⟨r, q, rfl⟩ : ∃ (r : Fin 16384) (q : Fin 128), i = ix2 r q := ⟨i 0, i 1, eq_ix2 i⟩
        exact (ref2_at (refH (X m c) (NW m c)) (W m c) r q).trans
          (Finset.sum_congr rfl fun k _ => congrArg (· * padw (W m c) k q) (refH_at _ _ r k))
      · funext i
        obtain ⟨q, r, rfl⟩ : ∃ (q : Fin 16) (r : Fin 16384), i = ix2 q r := ⟨i 0, i 1, eq_ix2 i⟩
        exact (ref3_at (refH (X m c) (NW m c)) (W m c) q r).trans
          (Finset.sum_congr rfl fun k _ => congrArg (· * padw (W m c) k _) (refH_at _ _ r k)))
      (Cert.Reference6Ideal.Value.run m' ρ')⟩

/-- The reference's frame, its program declaring no semaphore. -/
theorem frame_ref : Cert.quiescent_Reference6Ideal := fun m ρ _ =>
  (θ_run _ _ _).mono (fun r h => ⟨fun c => (h c).2.2.2, sem_eq_zero_of_no_sems (by decide) r.2⟩)
    (Cert.Reference6Ideal.Value.run m ρ)

end Cert.Proof.Norm

end
-- ==== Proof.Pick.lean ====
/- THE TWO BEST OF A ROW: the stable sort's first two positions, a row's maximum and the first lane that holds it, and the
   finite rows on which a high and a low half of an element add up to the element. -/
module

public import proofs.«01_k».proof.Defs
public import Idealize.ShloMosaic.Lib.Pointwise
public import Idealize.ShloMosaic.Lib.SortFacts

@[expose] public section

noncomputable section

namespace Cert.Proof.Pick

open Idealize.ShloMosaic

/-- `a` is the first position of the row's maximum. -/
def First {n : Nat} (f : Fin n → EReal) (a : Fin n) : Prop := (∀ k, f k ≤ f a) ∧ ∀ k, k < a → f k < f a

/-- The row with one position left out. -/
def mask {n : Nat} (f : Fin n → EReal) (a : Fin n) (k : Fin n) : EReal := if k = a then ⊥ else f k

/-- "Larger". -/
def B {n : Nat} (v : Fin n → EReal) (k k' : Fin n) : Bool := decide (v k' < v k)
/-- "Larger, or as large and earlier". -/
def R {n : Nat} (v : Fin n → EReal) (k k' : Fin n) : Bool := decide (v k' < v k ∨ (v k = v k' ∧ k < k'))

/-- On positions in order, a stable sort by "larger" is a sort by "larger, or as large and earlier". -/
theorem stable_eq {n : Nat} (v : Fin n → EReal) (l : List (Fin n)) (hl : l.Pairwise (· < ·)) :
    stableSort (B v) l = stableSort (R v) l := by
  induction l with
  | nil => rfl
  | cons a l ih =>
    rw [List.pairwise_cons] at hl
    unfold stableSort
    rw [ih hl.2]
    refine insertBefore_congr _ _ _ _ fun b hb => ?_
    have h1 : a < b := hl.1 b ((perm_stableSort _ _).mem_iff.mp hb)
    unfold B R
    rw [decide_eq_decide]
    exact ⟨Or.inl, fun h => h.resolve_right fun h' => absurd h'.2 (not_lt.mpr h1.le)⟩

/-- So the sorting permutation is the same under either. -/
theorem sorted_eq {n : Nat} (v : Fin n → EReal) : sortedFrom (B v) = sortedFrom (R v) := by
  funext k
  unfold sortedFrom
  have e : sortPositions n (B v) = sortPositions n (R v) := stable_eq v _ (List.pairwise_lt_finRange n)
  rw [List.get_of_eq e]
  rfl

/-- Of two different positions, one is before the other. -/
theorem R_total {n : Nat} (v : Fin n → EReal) (a b : Fin n) (h : R v a b = false) (hab : a ≠ b) : R v b a = true := by
  unfold R at *
  rw [decide_eq_false_iff_not, not_or, not_and] at h
  rw [decide_eq_true_eq]
  rcases lt_trichotomy (v a) (v b) with h1 | h1 | h1
  · exact Or.inl h1
  · exact Or.inr ⟨h1.symm, lt_of_le_of_ne (not_lt.mp (h.2 h1)) hab.symm⟩
  · exact absurd h1 h.1

/-- No two positions are each before the other. -/
theorem R_asymm {n : Nat} (v : Fin n → EReal) (a b : Fin n) (h : R v a b = true) : R v b a = false := by
  unfold R at *
  rw [decide_eq_true_eq] at h
  rw [decide_eq_false_iff_not]
  rintro (h1 | ⟨h1, h2⟩) <;> rcases h with h3 | ⟨h3, h4⟩
  · exact lt_asymm h1 h3
  · exact h1.ne h3
  · exact h3.ne h1
  · exact lt_asymm h2 h4

/-- "Not before" is transitive. -/
theorem R_trans {n : Nat} (v : Fin n → EReal) (a b c : Fin n) (h1 : R v a b = false) (h2 : R v b c = false) : R v a c = false := by
  unfold R at *
  rw [decide_eq_false_iff_not, not_or, not_and] at *
  have e1 := not_lt.mp h1.1
  have e2 := not_lt.mp h2.1
  refine ⟨not_lt.mpr (e1.trans e2), fun e => ?_⟩
  have e3 : v a = v b := le_antisymm e1 (e2.trans e.ge)
  have e4 : v b = v c := e3.symm.trans e
  exact not_lt.mpr ((not_lt.mp (h2.2 e4)).trans (not_lt.mp (h1.2 e3)))

/-- An earlier sorted position is before a later one. -/
theorem sorted_R {n : Nat} (v : Fin n → EReal) (i j : Fin n) (h : i < j) : R v (sortedFrom (B v) i) (sortedFrom (B v) j) = true := by
  rw [sorted_eq]
  refine R_total v _ _ (sortedFrom_noInversion (R v) (R v) (R_asymm v) (fun _ _ h => h) (R_trans v) i j h) fun e => ?_
  exact h.ne' (sortedFrom_injective _ e)

/-- The first sorted position is the first of the maximum. -/
theorem first_sorted (v : Fin 8 → EReal) : First v (sortedFrom (B v) 0) := by
  have key : ∀ k, k ≠ sortedFrom (B v) 0 → R v (sortedFrom (B v) 0) k = true := fun k hk => by
    obtain ⟨j, rfl⟩ := sortedFrom_surjective (B v) k
    exact sorted_R v 0 j (Fin.pos_of_ne_zero fun e => hk (by rw [e]))
  refine ⟨fun k => ?_, fun k hk => ?_⟩
  · by_cases e : k = sortedFrom (B v) 0
    · rw [← e]
    · rcases of_decide_eq_true (key k e) with h | h
      · exact h.le
      · exact h.1.ge
  · rcases of_decide_eq_true (key k hk.ne) with h | h
    · exact h
    · exact absurd h.2 (not_lt.mpr hk.le)

/-- The two first sorted positions differ. -/
theorem sorted_ne (v : Fin 8 → EReal) : sortedFrom (B v) 1 ≠ sortedFrom (B v) 0 := fun e =>
  absurd (sortedFrom_injective _ e) (by decide)

/-- The second sorted position is the first of the maximum with the first one left out, where no element is `-∞`. -/
theorem second_sorted (v : Fin 8 → EReal) (hv : ∀ k, v k ≠ ⊥) : First (mask v (sortedFrom (B v) 0)) (sortedFrom (B v) 1) := by
  have key : ∀ k, k ≠ sortedFrom (B v) 0 → k ≠ sortedFrom (B v) 1 → R v (sortedFrom (B v) 1) k = true := fun k hk hk' => by
    obtain ⟨j, rfl⟩ := sortedFrom_surjective (B v) k
    refine sorted_R v 1 j ?_
    have h0 : j ≠ 0 := fun e => hk (by rw [e])
    have h1 : j ≠ 1 := fun e => hk' (by rw [e])
    omega
  have hne := sorted_ne v
  have eb : mask v (sortedFrom (B v) 0) (sortedFrom (B v) 1) = v (sortedFrom (B v) 1) := if_neg hne
  refine ⟨fun k => ?_, fun k hk => ?_⟩
  · rw [eb]
    unfold mask
    split
    · exact bot_le
    · rename_i e
      by_cases e' : k = sortedFrom (B v) 1
      · rw [← e']
      · rcases of_decide_eq_true (key k e e') with h | h
        · exact h.le
        · exact h.1.ge
  · rw [eb]
    unfold mask
    split
    · exact bot_lt_iff_ne_bot.mpr (hv _)
    · rename_i e
      rcases of_decide_eq_true (key k e hk.ne) with h | h
      · exact h
      · exact absurd h.2 (not_lt.mpr hk.le)

/-- A row of 8 over 128 lanes, the rest `-∞`. -/
def lift (v : Fin 8 → EReal) (k : Fin 128) : EReal := if h : k.val < 8 then v ⟨k.val, h⟩ else ⊥
/-- A position among the 8, as a lane. -/
abbrev lane (a : Fin 8) : Fin 128 := ⟨a.val, by omega⟩

/-- The row over the lanes, at one of the 8. -/
theorem lift_lane (v : Fin 8 → EReal) (a : Fin 8) : lift v (lane a) = v a := dif_pos a.isLt
/-- The first position of the maximum stays the first over the lanes. -/
theorem first_lift (v : Fin 8 → EReal) (a : Fin 8) (h : First v a) : First (lift v) (lane a) := by
  refine ⟨fun k => ?_, fun k hk => ?_⟩
  · rw [lift_lane]
    unfold lift
    split
    · exact h.1 _
    · exact bot_le
  · rw [lift_lane]
    have hk' : k.val < a.val := hk
    unfold lift
    rw [dif_pos (by omega)]
    exact h.2 _ hk
/-- Leaving a position out before or after the lanes are added is the same. -/
theorem mask_lift (v : Fin 8 → EReal) (a : Fin 8) : mask (lift v) (lane a) = lift (mask v a) := by
  funext k
  unfold mask lift
  by_cases h : k.val < 8
  · simp only [dif_pos h, Fin.ext_iff]
  · simp only [dif_neg h, ite_self]

/-- A choice by whether two lanes are equal. -/
theorem sel_eq {α : Type} (k l : Nat) (hk : k < 128) (hl : l < 128) (x y : α) :
    Scalar.select (IntOp.cmpi .eq (BitVec.ofNat 32 k) (BitVec.ofNat 32 l)) x y = if k = l then x else y := by
  have e : BitVec.ofNat 32 k = BitVec.ofNat 32 l ↔ k = l := by
    refine ⟨fun h => ?_, fun h => by rw [h]⟩
    have h' := congrArg BitVec.toNat h
    rw [BitVec.toNat_ofNat, BitVec.toNat_ofNat, Nat.mod_eq_of_lt (by omega), Nat.mod_eq_of_lt (by omega)] at h'
    exact h'
  by_cases h : k = l
  · subst h; simp [Scalar.select, IntOp.cmpi]
  · have h' : ¬ BitVec.ofNat 32 k = BitVec.ofNat 32 l := fun h'' => h (e.mp h'')
    have h2 : (BitVec.ofNat 32 k == BitVec.ofNat 32 l) = false := beq_eq_false_iff_ne.mpr h'
    rw [if_neg h]
    simp only [IntOp.cmpi, h2]
    rfl
/-- A choice by whether the lane is among the 8. -/
theorem sel_lt {α : Type} (k : Fin 128) (x y : α) :
    Scalar.select (IntOp.cmpi .slt (BitVec.ofNat 32 k.val) 8#32) x y = if k.val < 8 then x else y := by
  have e : (BitVec.ofNat 32 k.val).slt 8#32 = decide (k.val < 8) := by revert k; decide +kernel
  simp only [IntOp.cmpi, e]
  by_cases h : k.val < 8 <;> simp [Scalar.select, h]

/-- The maximum of a row is at its first position. -/
theorem fold_max {n : Nat} (f : Fin n → EReal) (a : Fin n) (h : ∀ k, f k ≤ f a) : Finset.fold max ⊥ f Finset.univ = f a :=
  le_antisymm (Finset.fold_max_le _ |>.mpr ⟨bot_le, fun k _ => h k⟩) (Finset.le_fold_max _ |>.mpr (Or.inr ⟨a, Finset.mem_univ a, le_rfl⟩))

/-- A lane's number as an integer. -/
theorem toInt_lane (k : Fin 128) : (BitVec.ofNat 32 k.val).toInt = k.val := by
  have := k.isLt
  rw [BitVec.toInt_eq_toNat_of_lt (by rw [BitVec.toNat_ofNat]; omega), BitVec.toNat_ofNat, Nat.mod_eq_of_lt (by omega)]

/-- A bound from below of the signed minimum, and one from above. -/
theorem le_minsi {x y z : BitVec 32} : x.toInt ≤ (IntOp.minsi y z).toInt ↔ x.toInt ≤ y.toInt ∧ x.toInt ≤ z.toInt := by
  unfold IntOp.minsi
  simp only [BitVec.slt, decide_eq_true_eq]
  split <;> omega
theorem minsi_le {x y z : BitVec 32} : (IntOp.minsi y z).toInt ≤ x.toInt ↔ y.toInt ≤ x.toInt ∨ z.toInt ≤ x.toInt := by
  unfold IntOp.minsi
  simp only [BitVec.slt, decide_eq_true_eq]
  split <;> omega

/-- The least lane that holds the maximum is the first one. -/
theorem fold_first (f : Fin 128 → EReal) (a : Fin 128) (h : First f a) (t : EReal) (ht : t = f a) :
    Finset.fold IntOp.minsi 2147483647#32 (fun k : Fin 128 => if f k = t then BitVec.ofNat 32 k.val else 128#32) Finset.univ
      = BitVec.ofNat 32 a.val := by
  subst ht
  have e128 : (128#32 : BitVec 32).toInt = 128 := by decide
  have emax : (2147483647#32 : BitVec 32).toInt = 2147483647 := by decide
  have ha := a.isLt
  refine BitVec.eq_of_toInt_eq (le_antisymm ?_ ?_)
  · refine (Finset.fold_op_rel_iff_or (r := fun x y : BitVec 32 => y.toInt ≤ x.toInt) (fun {x y z} => minsi_le)).mpr (Or.inr ⟨a, Finset.mem_univ a, ?_⟩)
    rw [if_pos rfl]
  · refine (Finset.fold_op_rel_iff_and (r := fun x y : BitVec 32 => x.toInt ≤ y.toInt) (fun {x y z} => le_minsi)).mpr ⟨?_, fun k _ => ?_⟩
    · rw [toInt_lane, emax]; omega
    · split
      · rename_i e
        rw [toInt_lane, toInt_lane]
        have : ¬ k < a := fun hk => (h.2 k hk).ne e
        omega
      · rw [toInt_lane, e128]; omega

/-- An element that is neither `+∞` nor `-∞`. -/
def IsReal (z : EReal) : Prop := ∃ r : ℝ, z = (r : EReal)

/-- Finite elements are closed under products and sums; a finite element less itself is zero. -/
theorem IsReal.mul {x y : EReal} : IsReal x → IsReal y → IsReal (x * y) := by
  rintro ⟨a, rfl⟩ ⟨b, rfl⟩; exact ⟨a * b, (EReal.coe_mul a b).symm⟩
theorem IsReal.add {x y : EReal} : IsReal x → IsReal y → IsReal (x + y) := by
  rintro ⟨a, rfl⟩ ⟨b, rfl⟩; exact ⟨a + b, (EReal.coe_add a b).symm⟩
theorem IsReal.zero : IsReal 0 := ⟨0, rfl⟩
theorem IsReal.sub_self {x : EReal} : IsReal x → x - x = 0 := by
  rintro ⟨a, rfl⟩; rw [← EReal.coe_sub, _root_.sub_self]; rfl
/-- A finite element is not minus infinity; one that is neither infinity is finite; a sum of finite elements is finite. -/
theorem IsReal.ne_bot {x : EReal} : IsReal x → x ≠ ⊥ := by
  rintro ⟨a, rfl⟩; exact EReal.coe_ne_bot a
theorem IsReal.of_ne {x : EReal} (h1 : x ≠ ⊤) (h2 : x ≠ ⊥) : IsReal x := ⟨x.toReal, (EReal.coe_toReal h1 h2).symm⟩
theorem IsReal.sum {n : Nat} (f : Fin n → EReal) (h : ∀ k, IsReal (f k)) : IsReal (∑ k, f k) :=
  Finset.sum_induction f IsReal (fun _ _ => IsReal.add) IsReal.zero fun k _ => h k

/-- A sum of squares is not negative. -/
theorem sq_nonneg (x : EReal) : 0 ≤ x * x := by
  rcases le_total 0 x with h | h
  · exact mul_nonneg h h
  · rw [← neg_mul_neg]; exact mul_nonneg (EReal.neg_nonneg.mpr h) (EReal.neg_nonneg.mpr h)

/-- A row over its root mean square is finite, whatever the row: where an element is infinite, so is the mean square, and
    its inverse root is zero. -/
theorem norm_real {n : Nat} (f : Fin n → EReal) (k : Fin n) (d e : ℝ) (hd : 0 < d) (he : 0 < e) :
    IsReal (f k * Ideal.rsqrt (Ideal.div (∑ l, f l * f l) (d : EReal) + (e : EReal))) := by
  have hs : 0 ≤ ∑ l, f l * f l := Finset.sum_nonneg fun l _ => sq_nonneg _
  rw [Ideal.div_coe hd.ne']
  have hpos : (0 : EReal) < ((1 / d : ℝ) : EReal) := by exact_mod_cast (by positivity : (0 : ℝ) < 1 / d)
  by_cases ht : (∑ l, f l * f l) = ⊤
  · rw [ht, EReal.top_mul_of_pos hpos, EReal.top_add_coe, Ideal.rsqrt_top, mul_zero]; exact IsReal.zero
  · obtain ⟨s, es⟩ := IsReal.of_ne ht (fun h => by rw [h] at hs; exact absurd hs (by simp))
    have hs' : 0 ≤ s := by rw [es] at hs; exact_mod_cast hs
    have hk : IsReal (f k) := by
      have hle : f k * f k ≤ ∑ l, f l * f l := Finset.single_le_sum (f := fun l => f l * f l) (fun l _ => sq_nonneg _) (Finset.mem_univ k)
      refine IsReal.of_ne (fun h => ht ?_) (fun h => ht ?_)
      · rw [h, EReal.top_mul_top] at hle; exact top_le_iff.mp hle
      · rw [h, EReal.bot_mul_bot] at hle; exact top_le_iff.mp hle
    refine hk.mul ?_
    rw [es, ← EReal.coe_mul, ← EReal.coe_add, Ideal.rsqrt_coe]
    have hp : 0 < s * (1 / d) + e := by positivity
    rw [if_neg hp.le.not_gt, if_neg hp.ne']
    exact ⟨_, rfl⟩

end Cert.Proof.Pick

end
-- ==== Proof.Router.lean ====
/- THE ROUTER WITH ITS NORM (Kernel7Ideal): each row over its root mean square, times the norm's weight, and the row's
   route over 128 lanes: its two best experts and their gates. The kernel adds three products of high and low halves for
   the logits, and takes each maximum and the first lane that holds it. -/
module

public import proofs.«01_k».proof.Defs
public import proofs.«01_k».proof.Proof.Gen.Kernel7Ideal.Value
public import proofs.«01_k».proof.Proof.Gen.Pre_finite_weights
public import proofs.«01_k».proof.Proof.Pick
public import Idealize.ShloMosaic.Lib.Pipeline.ValueKit
public import Idealize.ShloMosaic.Lib.Pointwise
public import Idealize.ShloMosaic.Lib.Claim

@[expose] public section

set_option maxRecDepth 16384

noncomputable section

namespace Cert.Proof.Router

open Idealize.ShloMosaic.Pointwise Cert.Kernel7Ideal Cert.Kernel7Ideal.Gen Cert.Kernel7Ideal.Value Idealize.ShloMosaic Idealize.ShloMosaic.TcCoe Idealize.SL.Sem Cert.Proof.Pick

/-- Element `k` of row `r` after the norm: the row over its root mean square, times the norm's weight. -/
def hid (x : FVec Ideal S16384x2048 .f32) (nw : FVec Ideal S2048 .f32) (r : Fin 16384) (k : Fin 2048) : EReal :=
  x (ix2 r k) * Ideal.rsqrt (Ideal.div (∑ l : Fin 2048, x (ix2 r l) * x (ix2 r l)) (Ideal.ofBits FTy.f32 0x45000000#32)
    + Ideal.ofBits FTy.f32 0x358637BD#32) * nw (ix1 k)

/-- Entry `(k, q)` of the router's weight, its 8 columns padded with zeros to 128. -/
def padw (w : FVec Ideal S2048x8 .f32) (k : Fin 2048) (q : Fin 128) : EReal :=
  if h : q.val < 8 then w (ix2 k ⟨q.val, h⟩) else 0

/-- The integer zero, as a float, is zero. -/
theorem sitofp_zero : (FloatOps.sitofp (F := Ideal) FTy.f32 (0#32) : EReal) = 0 := by
  show (((0#32 : BitVec 32).toInt : ℝ) : EReal) = 0
  simp

/-- The logits of a row: its product with the router's weight. -/
def logit (x : FVec Ideal S16384x2048 .f32) (nw : FVec Ideal S2048 .f32) (w : FVec Ideal S2048x8 .f32) (r : Fin 16384) (q : Fin 8) : EReal :=
  ∑ k : Fin 2048, hid x nw r k * w (ix2 k q)

/-- The first four lanes of a row's route: the two experts, then their gates. -/
def route (a b : Fin 8) (va vb : EReal) (q : Fin 128) : EReal :=
  if q.val = 0 then FloatOps.sitofp (F := Ideal) FTy.f32 (BitVec.ofNat 32 a.val)
  else if q.val = 1 then FloatOps.sitofp (F := Ideal) FTy.f32 (BitVec.ofNat 32 b.val)
  else if q.val = 2 then Ideal.div 1 (1 + Ideal.exp (vb - va))
  else if q.val = 3 then Ideal.div (Ideal.exp (vb - va)) (1 + Ideal.exp (vb - va))
  else 0

/-- The route of a row of logits: the two first positions of its sort from the largest. -/
def pick (v : Fin 8 → EReal) (q : Fin 128) : EReal :=
  route (sortedFrom (B v) 0) (sortedFrom (B v) 1) (v (sortedFrom (B v) 0)) (v (sortedFrom (B v) 1)) q

/-- The two results: the normalised rows and their routes. -/
def G1 (x : FVec Ideal S16384x2048 .f32) (nw : FVec Ideal S2048 .f32) : FVec Ideal S16384x2048 .f32 :=
  fun i => hid x nw (i 0) (i 1)
def G2 (x : FVec Ideal S16384x2048 .f32) (nw : FVec Ideal S2048 .f32) (w : FVec Ideal S2048x8 .f32) : FVec Ideal S16384x128 .f32 :=
  fun i => pick (logit x nw w (i 0)) (i 1)

/-- The norm of a block of rows, at an index. -/
theorem pay2_at (x : FVec Ideal S512x2048 .f32) (g : FVec Ideal S1x2048 .f32) (i : Fin 512) (k : Fin 2048) :
    (k0_pay2 x g : FVec Ideal S512x2048 .f32) (ix2 i k)
      = x (ix2 i k) * Ideal.rsqrt (Ideal.div (∑ l : Fin 2048, x (ix2 i l) * x (ix2 i l)) (Ideal.ofBits FTy.f32 0x45000000#32)
          + Ideal.ofBits FTy.f32 0x358637BD#32) * g (ix2 0 k) := by
  pointwise [k0_pay2]

/-- The kernel's logits at an index, where its rows and its weight are finite: the low halves are zero. -/
theorem pay3_at (x : FVec Ideal S512x2048 .f32) (g : FVec Ideal S1x2048 .f32) (w : FVec Ideal S2048x128 .f32) (i : Fin 512) (q : Fin 128)
    (hh : ∀ k, IsReal ((k0_pay2 x g : FVec Ideal S512x2048 .f32) (ix2 i k))) (hw : ∀ k, IsReal (w (ix2 k q))) :
    (k0_pay3 x g w : FVec Ideal S512x128 .f32) (ix2 i q)
      = if q.val < 8 then ∑ k : Fin 2048, (k0_pay2 x g : FVec Ideal S512x2048 .f32) (ix2 i k) * w (ix2 k q) else Ideal.ofBits FTy.f32 4286578688#32 := by
  unfold k0_pay3
  revert hh
  generalize (k0_pay2 x g : FVec Ideal S512x2048 .f32) = h
  intro hh
  refine (?_ : _ = Scalar.select (IntOp.cmpi CmpIPredicate.slt (BitVec.ofNat 32 q.val) 8#32)
      (∑ x, h (ix2 i x) * w (ix2 x q) +
        (∑ x, h (ix2 i x) * (w (ix2 x q) - w (ix2 x q)) + ∑ x, (h (ix2 i x) - h (ix2 i x)) * w (ix2 x q)))
      (Ideal.ofBits FTy.f32 4286578688#32)).trans ?_
  · pointwise
  · rw [sel_lt]
    simp only [(hh _).sub_self, (hw _).sub_self, mul_zero, zero_mul, Finset.sum_const_zero, add_zero]

/-- A block's row maxima, the places that hold them, and the lanes' numbers. -/
def topv (L : FVec Ideal S512x128 .f32) : FVec Ideal S512x1 .f32 :=
  shapeCast S512x1 (multiReduction .maximumf [1] S512 L 0xFF800000#32 reduces_S512x128_S512 (.inl rfl) rfl) shapeCasts_S512_S512x1
def isTop (L : FVec Ideal S512x128 .f32) : IVec S512x128 1 := cmpf .oeq L (broadcastTo S512x128 (topv L) broadcasts_S512x1_S512x128)
abbrev lanes : IVec S512x128 32 := iota .tc S512x128 32 [1] iota_S512x128_d1_w32

/-- The kernel's row maxima and places are these, of its logits. -/
theorem pay4_eq (x : FVec Ideal S512x2048 .f32) (g : FVec Ideal S1x2048 .f32) (w : FVec Ideal S2048x128 .f32) :
    k0_pay4 x g w = topv (k0_pay3 x g w) := rfl
theorem pay5_eq (x : FVec Ideal S512x2048 .f32) (g : FVec Ideal S1x2048 .f32) (w : FVec Ideal S2048x128 .f32) :
    k0_pay5 (F := Ideal) x g w = isTop (k0_pay3 x g w) := rfl

/-- The row maximum, and the first lane that holds it, as folds. -/
theorem topv_at (L : FVec Ideal S512x128 .f32) (i : Fin 512) :
    topv L (ix2 i 0) = Finset.fold max (Ideal.ofBits FTy.f32 4286578688#32) (fun x => L (ix2 i x)) Finset.univ := by
  pointwise [topv]
theorem pay6_at (L : FVec Ideal S512x128 .f32) (i : Fin 512) : (k0_pay6 lanes (isTop L) 128#32) (ix2 i 0)
    = Finset.fold IntOp.minsi (2147483647#32) (fun x : Fin 128 => if L (ix2 i x) = topv L (ix2 i 0) then BitVec.ofNat 32 x.val else 128#32) Finset.univ := by
  pointwise [k0_pay6, isTop, lanes]
/-- The pattern of minus infinity. -/
theorem ofBits_ninf : Ideal.ofBits FTy.f32 4286578688#32 = ⊥ := by
  simp [Ideal.ofBits, Ideal.ieee]

/-- The second expert and the gates of a block's row, at an index. -/
theorem pay8_at (L : FVec Ideal S512x128 .f32) (i : Fin 512) (q : Fin 128) (v : Fin 8 → EReal) (hL : ∀ k, L (ix2 i k) = lift v k) (hv : ∀ k, v k ≠ ⊥) (hq : q.val ≠ 0) :
    (k0_pay8 lanes L (topv L) (isTop L) 128#32 : FVec Ideal S512x128 .f32) (ix2 i q) = pick v q := by
  have ht : topv L (ix2 i 0) = v (sortedFrom (B v) 0) := by
    rw [topv_at, ofBits_ninf]
    simp only [hL]
    rw [fold_max (lift v) _ (first_lift v _ (first_sorted v)).1, lift_lane]
  have hn : (k0_pay6 lanes (isTop L) 128#32) (ix2 i 0) = BitVec.ofNat 32 (sortedFrom (B v) 0).val := by
    rw [pay6_at, ht]
    simp only [hL]
    exact fold_first (lift v) _ (first_lift v _ (first_sorted v)) _ (lift_lane v _).symm
  have hb := second_sorted v hv
  have ea : ∀ k : Fin 128, (if k.val = (sortedFrom (B v) 0).val then (⊥ : EReal) else lift v k) = lift (mask v (sortedFrom (B v) 0)) k := fun k => by
    rw [← mask_lift]; unfold mask; simp only [Fin.ext_iff]
  have hm := first_lift _ _ hb
  have fm := fold_max _ _ hm.1
  have eb : lift (mask v (sortedFrom (B v) 0)) (lane (sortedFrom (B v) 1)) = v (sortedFrom (B v) 1) := by
    rw [lift_lane]; exact if_neg (sorted_ne v)
  have ff := fold_first _ _ hm _ fm
  unfold k0_pay8
  revert hn ht
  generalize (k0_pay6 lanes (isTop L) 128#32) = n1
  generalize topv L = t
  intro ht hn
  pointwise [lanes]
  simp only [ht, hn, hL, ofBits_ninf]
  simp only [sel_eq _ _ (Fin.isLt _) (show (sortedFrom (B v) 0).val < 128 by omega), ea]
  rw [ff, fm, eb]
  simp only [sel_eq _ _ (Fin.isLt _) (show 1 < 128 by omega), sel_eq _ _ (Fin.isLt _) (show 2 < 128 by omega), sel_eq _ _ (Fin.isLt _) (show 3 < 128 by omega)]
  unfold pick route
  rw [if_neg hq]

/-- A block's route, at an index. -/
theorem pay_at (L : FVec Ideal S512x128 .f32) (i : Fin 512) (q : Fin 128) (v : Fin 8 → EReal) (hL : ∀ k, L (ix2 i k) = lift v k) (hv : ∀ k, v k ≠ ⊥) :
    (k0_pay1 (k0_pay7 lanes) (k0_pay8 lanes L (topv L) (isTop L) 128#32) (k0_pay9 (F := Ideal) lanes (isTop L) 128#32) : FVec Ideal S512x128 .f32) (ix2 i q)
      = pick v q := by
  have h8 := pay8_at L i q v hL hv
  have hn : (k0_pay6 lanes (isTop L) 128#32) (ix2 i 0) = BitVec.ofNat 32 (sortedFrom (B v) 0).val := by
    rw [pay6_at, topv_at, ofBits_ninf]
    simp only [hL]
    exact fold_first (lift v) _ (first_lift v _ (first_sorted v)) _ (fold_max _ _ (first_lift v _ (first_sorted v)).1)
  unfold k0_pay1 k0_pay7 k0_pay9
  revert hn h8
  generalize (k0_pay6 lanes (isTop L) 128#32) = n1
  generalize (k0_pay8 lanes L (topv L) (isTop L) 128#32) = n2
  intro h8 hn
  pointwise [lanes]
  rw [hn, sel_eq _ _ q.isLt (show 0 < 128 by omega)]
  by_cases hq : q.val = 0
  · unfold pick route; rw [if_pos hq, if_pos hq]
  · rw [if_neg hq]; exact h8 hq

variable (m : (ℓ : Loc nD τ sig) → Buf (Elt Ideal) ℓ) (ρ : Dev nD → PrngReg)

/-- Where each window stands at each grid point. -/
theorem idx : ∀ t : Fin cfg0.N, win0_0.index t = ![t.val, 0] ∧ win0_1.index t = ![0, 0] ∧ win0_2.index t = ![0, 0]
    ∧ win0_3.index t = ![t.val, 0] ∧ win0_4.index t = ![t.val, 0] :=
  (by decide +kernel : ∀ t : Fin grid0.N, _)

theorem N_eq : cfg0.N = 32 := N_0

/-- The row of the arrays that row `i` of point `t`'s block is. -/
abbrev rowOf (t : Fin cfg0.N) (i : Fin 512) : Fin 16384 := ⟨t.val * 512 + i.val, by have := t.isLt; have := N_eq; omega⟩

/-- The arguments, as launched. -/
abbrev X (c : Dev nD) : FVec Ideal S16384x2048 .f32 := m ((c : Thread nD τ).loc main_arg0)
abbrev NW (c : Dev nD) : FVec Ideal S2048 .f32 := m ((c : Thread nD τ).loc main_arg1)
abbrev W (c : Dev nD) : FVec Ideal S2048x8 .f32 := m ((c : Thread nD τ).loc main_arg2)

/-- The blocks that a point reads, at an index. -/
theorem blk0 (c : Dev nD) (t : Fin cfg0.N) (i : Fin 512) (k : Fin 2048) : iblk m c 0 t (ix2 i k) = X m c (ix2 (rowOf t i) k) := by
  obtain ⟨h0, h1, h2, h3, h4⟩ := idx t
  refine (show iblk m c 0 t (ix2 i k) = V m c main_arg0 (((cfg0.win 0).blk t).view.emb (ix2 i k)) from rfl).trans ?_
  rw [V_main_arg0]
  blk_ext [h0]
/-- The norm's weight that a point reads, at an index. -/
theorem blk1 (c : Dev nD) (t : Fin cfg0.N) (k : Fin 2048) : iblk m c 1 t (ix2 0 k) = NW m c (ix1 k) := by
  obtain ⟨h0, h1, h2, h3, h4⟩ := idx t
  refine (show iblk m c 1 t (ix2 0 k) = V m c main_v0 (((cfg0.win 1).blk t).view.emb (ix2 0 k)) from rfl).trans ?_
  simp only [V, hostOps0, hostOps0_1, List.flatten_cons, List.flatten_nil, List.cons_append, List.nil_append, List.append_nil]; entry_read
  pointwise
  blk_ext [h1]
/-- The router's weight that a point reads, at an index. -/
theorem blk2 (c : Dev nD) (t : Fin cfg0.N) (k : Fin 2048) (q : Fin 128) : iblk m c 2 t (ix2 k q) = padw (W m c) k q := by
  obtain ⟨h0, h1, h2, h3, h4⟩ := idx t
  refine (show iblk m c 2 t (ix2 k q) = V m c main_v1 (((cfg0.win 2).blk t).view.emb (ix2 k q)) from rfl).trans ?_
  have e : ((cfg0.win 2).blk t).view.emb (ix2 k q) = ix2 k q := by blk_ext [h2]
  rw [e]
  simp only [V, hostOps0, hostOps0_1, List.flatten_cons, List.flatten_nil, List.cons_append, List.nil_append, List.append_nil]; entry_read
  refine (show _ = (pad S2048x128 ![0, 0] ![0, 120] ![0, 0] (W m c)
    (sitofp .f32 (constantI S_ 32 0#32)) pads_S2048x8_S2048x128_000_01200 h_S_ : FVec Ideal S2048x128 .f32) (ix2 k q) from rfl).trans ?_
  generalize W m c = w
  unfold padw
  pointwise
  by_cases hq : q.val < 8
  · simp only [dif_pos hq]
  · simp only [dif_neg hq, sitofp_zero]

/-- The norm of the point's rows, at an index. -/
theorem hid_at (c : Dev nD) (t : Fin cfg0.N) (i : Fin 512) (k : Fin 2048) :
    (k0_pay2 (iblk m c 0 t) (iblk m c 1 t) : FVec Ideal S512x2048 .f32) (ix2 i k) = hid (X m c) (NW m c) (rowOf t i) k := by
  refine (pay2_at _ _ i k).trans ?_
  unfold hid
  simp only [blk0, blk1]

/-- The two constants of the norm: the row's length and the small addend. -/
theorem ofBits_len : Ideal.ofBits FTy.f32 0x45000000#32 = ((2048 : ℝ) : EReal) := by
  simp [Ideal.ofBits, Ideal.ieee, -EReal.coe_mul]; norm_num
theorem ofBits_eps : ∃ e : ℝ, 0 < e ∧ Ideal.ofBits FTy.f32 0x358637BD#32 = (e : EReal) :=
  ⟨8796093 / 2 ^ 43, by positivity, by simp [Ideal.ofBits, Ideal.ieee, -EReal.coe_mul]; norm_num⟩

/-- A normalised row is finite where the norm's weight is. -/
theorem hid_real (x : FVec Ideal S16384x2048 .f32) (nw : FVec Ideal S2048 .f32) (r : Fin 16384) (k : Fin 2048) (h : IsReal (nw (ix1 k))) :
    IsReal (hid x nw r k) := by
  obtain ⟨e, he, ee⟩ := ofBits_eps
  unfold hid
  rw [ofBits_len, ee]
  exact (norm_real (fun l => x (ix2 r l)) k 2048 e (by norm_num) he).mul h

/-- A magnitude below `+∞` is a finite element's. -/
theorem real_of_abs (z : EReal) (h : FloatOps.absf (F := Ideal) (φ := .f32) z < Ideal.ofBits FTy.f32 2139095040#32) : IsReal z := by
  have e : Ideal.ofBits FTy.f32 2139095040#32 = ⊤ := by simp [Ideal.ofBits, Ideal.ieee]
  rw [e] at h
  refine IsReal.of_ne (fun h' => ?_) (fun h' => ?_)
  · subst h'; exact absurd h (by show ¬ max (⊤ : EReal) (-⊤) < ⊤; simp)
  · subst h'; exact absurd h (by show ¬ max (⊥ : EReal) (-⊥) < ⊤; simp)

/-- What the precondition says: the norm's weight and the router's are finite. -/
theorem pre_at (x : FVec Ideal S16384x2048 .f32) (nw : FVec Ideal S2048 .f32) (w : FVec Ideal S2048x8 .f32)
    (h : Cert.Pre_finite_weights.fn (F := Ideal) x nw w = fun _ => 1#1) (k : Fin 2048) (q : Fin 8) : IsReal (nw (ix1 k)) ∧ IsReal (w (ix2 k q)) := by
  have h' := congrFun h (ix2 k q)
  revert h'
  unfold Cert.Pre_finite_weights.fn
  pointwise
  intro h'
  by_cases h1 : FloatOps.absf (F := Ideal) (φ := .f32) (nw (ix1 k)) < Ideal.ofBits FTy.f32 2139095040#32
  · by_cases h2 : FloatOps.absf (F := Ideal) (φ := .f32) (w (ix2 k q)) < Ideal.ofBits FTy.f32 2139095040#32
    · exact ⟨real_of_abs _ h1, real_of_abs _ h2⟩
    · rw [decide_eq_false h2] at h'
      cases hd : decide (FloatOps.absf (F := Ideal) (φ := .f32) (nw (ix1 k)) < Ideal.ofBits FTy.f32 2139095040#32) <;> rw [hd] at h' <;> exact absurd h' (by decide)
  · rw [decide_eq_false h1] at h'
    cases hd : decide (FloatOps.absf (F := Ideal) (φ := .f32) (w (ix2 k q)) < Ideal.ofBits FTy.f32 2139095040#32) <;> rw [hd] at h' <;> exact absurd h' (by decide)

/-- The normalised rows after the run. -/
theorem final1 (c : Dev nD) : (dats m 0 c).arrAt 3 cfg0.N = G1 (X m c) (NW m c) := by
  refine (dats m 0 c).arrAt_eq_of_covers 3 _ (by decide +kernel) fun t hf y => ?_
  obtain ⟨h0, h1, h2, h3, h4⟩ := idx t
  blk_simp
  rw [after0_3]
  frame_out
  obtain ⟨a, b, rfl⟩ : ∃ (a : Fin 512) (b : Fin 2048), y = ix2 a b := ⟨y 0, y 1, eq_ix2 y⟩
  refine (hid_at m c t a b).trans ((show _ = G1 (X m c) (NW m c) (ix2 (rowOf t a) b) from rfl).trans ?_)
  blk_ext [h3]

/-- The precondition's content, on every device. -/
def Fine (c : Dev nD) : Prop := ∀ (k : Fin 2048) (q : Fin 8), IsReal (NW m c (ix1 k)) ∧ IsReal (W m c (ix2 k q))

/-- The kernel's logits of the point's rows, at an index. -/
theorem logits_at (c : Dev nD) (hf : Fine m c) (t : Fin cfg0.N) (i : Fin 512) (q : Fin 128) :
    (k0_pay3 (iblk m c 0 t) (iblk m c 1 t) (iblk m c 2 t) : FVec Ideal S512x128 .f32) (ix2 i q)
      = lift (logit (X m c) (NW m c) (W m c) (rowOf t i)) q := by
  refine (pay3_at _ _ _ i q (fun k => ?_) (fun k => ?_)).trans ?_
  · rw [hid_at]; exact hid_real _ _ _ _ (hf k 0).1
  · rw [blk2]
    unfold padw
    split
    · exact (hf k _).2
    · exact IsReal.zero
  · simp only [hid_at, blk2]
    unfold lift logit padw
    by_cases h : q.val < 8
    · simp only [dif_pos h, if_pos h]
    · simp only [dif_neg h, if_neg h, ofBits_ninf]

/-- The routes after the run. -/
theorem final2 (c : Dev nD) (hf : Fine m c) : (dats m 0 c).arrAt 4 cfg0.N = G2 (X m c) (NW m c) (W m c) := by
  refine (dats m 0 c).arrAt_eq_of_covers 4 _ (by decide +kernel) fun t hf' y => ?_
  obtain ⟨h0, h1, h2, h3, h4⟩ := idx t
  blk_simp
  rw [after0_4]
  unfold_out out0_4
  frame_out
  obtain ⟨a, b, rfl⟩ : ∃ (a : Fin 512) (b : Fin 128), y = ix2 a b := ⟨y 0, y 1, eq_ix2 y⟩
  have e := pay_at (k0_pay3 (iblk m c 0 t) (iblk m c 1 t) (iblk m c 2 t)) a b _ (logits_at m c hf t a)
    (fun k => (IsReal.sum _ fun l => (hid_real _ _ _ l (hf l 0).1).mul (hf l k).2).ne_bot)
  refine (Eq.trans ?_ e).trans ((show _ = G2 (X m c) (NW m c) (W m c) (ix2 (rowOf t a) b) from rfl).trans ?_)
  · rw [pay4_eq, pay5_eq]
  · blk_ext [h4]

/-- The kernel's run with its results named. -/
theorem run (hf : ∀ c, Fine m c) : θ_run defs (onTc (τ := τ) (main (F := Ideal))) ⟨m, fun _ => 0, ρ⟩ fun r => ∀ c : Dev nD,
      r.2.mem ((c : Thread nD τ).loc main_v2_0) = G1 (X m c) (NW m c)
      ∧ r.2.mem ((c : Thread nD τ).loc main_v2_1) = G2 (X m c) (NW m c) (W m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final1 m c), (h c).2.1.trans (final2 m c (hf c)), (h c).2.2⟩) (run_blocks m ρ)

end Cert.Proof.Router

end
-- ==== Proof.RouterRef.lean ====
/- THE ROUTER AGAINST ITS REFERENCE (Reference7Ideal): the reference's logits, its two largest logits by a stable sort, and
   their softmax, at an index; then the claim that both programs leave the same two arrays. -/
module

public import proofs.«01_k».proof.Defs
public import proofs.«01_k».proof.Proof.Gen.Reference7Ideal.Run
public import proofs.«01_k».proof.Proof.Gen.Pre_finite_weights
public import proofs.«01_k».proof.Proof.Router
public import Idealize.ShloMosaic.Lib.Pipeline.ValueKit
public import Idealize.ShloMosaic.Lib.Pointwise
public import Idealize.ShloMosaic.Lib.Claim

@[expose] public section

set_option maxRecDepth 16384

noncomputable section

namespace Cert.Proof.Router

open Idealize.ShloMosaic.Pointwise Cert.Reference7Ideal Cert.Reference7Ideal.Gen Idealize.ShloMosaic Idealize.ShloMosaic.TcCoe Idealize.SL.Sem Cert.Proof.Pick

/-- The reference's normalised rows, as composed. -/
def refH (x : FVec Ideal S16384x2048 .f32) (nw : FVec Ideal S2048 .f32) : FVec Ideal S16384x2048 .f32 :=
  mulf (mulf x (broadcastInDim S16384x2048 ![0, 1] bcast_S16384x1_S16384x2048_0_1
    (Host.rsqrt (addf (Host.divf (broadcastInDim S16384x1 ![0] bcast_S16384_S16384x1_0
      (Host.reduceAdd (mulf x x) (constant S_ .f32 0x00000000#32)
        reducesTo_S16384x2048_S16384_d1 h_S_))
      (broadcastInDim S16384x1 ![] bcast_S_S16384x1 (constant S_ .f32 0x45000000#32)))
      (broadcastInDim S16384x1 ![] bcast_S_S16384x1 (constant S_ .f32 0x358637BD#32))))))
    (broadcastInDim S16384x2048 ![0, 1] bcast_S1x2048_S16384x2048_0_1
      (broadcastInDim S1x2048 ![1] bcast_S2048_S1x2048_1 nw))

/-- The reference's normalised rows, at an index. -/
theorem refH_at (x : FVec Ideal S16384x2048 .f32) (nw : FVec Ideal S2048 .f32) (r : Fin 16384) (k : Fin 2048) :
    refH x nw (ix2 r k) = hid x nw r k := by
  unfold refH hid
  pointwise

/-- The reference's logits, as composed, and at an index. -/
def refL (x : FVec Ideal S16384x2048 .f32) (nw : FVec Ideal S2048 .f32) (w : FVec Ideal S2048x8 .f32) : FVec Ideal S16384x8 .f32 :=
  Host.dotGeneral dot_S16384x2048_S2048x8_S16384x8_1_0_0_1_n_n none (refH x nw) w
theorem refL_at (x : FVec Ideal S16384x2048 .f32) (nw : FVec Ideal S2048 .f32) (w : FVec Ideal S2048x8 .f32) (r : Fin 16384) (q : Fin 8) :
    refL x nw w (ix2 r q) = logit x nw w r q := by
  have e : refL x nw w (ix2 r q) = ∑ k : Fin 2048, refH x nw (ix2 r k) * w (ix2 k q) := by
    unfold refL
    generalize refH x nw = h
    pointwise
  rw [e]
  exact Finset.sum_congr rfl fun k _ => congrArg (· * w (ix2 k q)) (refH_at x nw r k)

/-- The softmax of each row's two logits, as composed. -/
def gates (T : FVec Ideal S16384x2 .f32) : FVec Ideal S16384x2 .f32 :=
  let e := Host.exp (subf T (broadcastInDim S16384x2 ![0, 1] bcast_S16384x1_S16384x2_0_1 (broadcastInDim S16384x1 ![0] bcast_S16384_S16384x1_0 (maximumf (broadcastInDim S16384 ![] bcast_S_S16384 (constant S_ .f32 0xFF800000#32)) (Host.reduce FloatOps.maximumf T (constant S_ .f32 0xFF800000#32) reducesTo_S16384x2_S16384_d1 h_S_)))))
  Host.divf e (broadcastInDim S16384x2 ![0, 1] bcast_S16384x1_S16384x2_0_1 (broadcastInDim S16384x1 ![0] bcast_S16384_S16384x1_0 (Host.reduceAdd e (constant S_ .f32 0x00000000#32) reducesTo_S16384x2_S16384_d1 h_S_)))

/-- The exponential of zero. -/
theorem exp_zero : Ideal.exp 0 = 1 := by
  rw [show (0 : EReal) = ((0 : ℝ) : EReal) from rfl, Ideal.exp_coe, Real.exp_zero]; rfl

/-- The gates at an index, the first logit being the larger and finite. -/
theorem gates_at (T : FVec Ideal S16384x2 .f32) (r : Fin 16384) (q : Fin 2) (va vb : EReal) (h0 : T (ix2 r 0) = va) (h1 : T (ix2 r 1) = vb)
    (hle : vb ≤ va) (hv : IsReal va) :
    gates T (ix2 r q) = Ideal.div (Ideal.exp (T (ix2 r q) - va)) (1 + Ideal.exp (vb - va)) := by
  have hf : Finset.fold max ⊥ (fun x : Fin 2 => T (ix2 r x)) Finset.univ = va := by
    rw [fold_max (fun x : Fin 2 => T (ix2 r x)) 0 (fun k => ?_), h0]
    rcases (by omega : k = 0 ∨ k = 1) with rfl | rfl
    · exact le_rfl
    · simp only [h0, h1]; exact hle
  pointwise [gates]
  rw [ofBits_ninf, hf, max_eq_right bot_le, Fin.sum_univ_two, h0, h1, hv.sub_self, exp_zero]

/-- An index with its column replaced. -/
theorem along_ix2 (r : Fin 16384) (q k : Fin 8) : Shape.Idx.along (ix2 r q : S16384x8.Idx) (1 : Fin 2) k = ix2 r k := by
  funext a
  unfold Shape.Idx.along
  match a with
  | ⟨0, _⟩ => rfl
  | ⟨1, _⟩ => rfl

/-- The sort's comparison of a row's logits is "larger". -/
theorem before_eq (L : FVec Ideal S16384x8 .f32) (r : Fin 16384) (q : Fin 8) :
    (fun k k' : Fin 8 => FloatOps.cmpfTotal (F := Ideal) (φ := .f32) .gt (L (Shape.Idx.along (ix2 r q : S16384x8.Idx) (1 : Fin 2) k))
      (L (Shape.Idx.along (ix2 r q : S16384x8.Idx) (1 : Fin 2) k')) == 1#1) = B fun k => L (ix2 r k) := by
  funext k k'
  rw [along_ix2, along_ix2]
  show (BitVec.ofBool (decide (L (ix2 r k') < L (ix2 r k))) == 1#1) = decide (L (ix2 r k') < L (ix2 r k))
  cases decide (L (ix2 r k') < L (ix2 r k)) <;> rfl

/-- The two largest logits and their positions, at an index. -/
theorem topk1_at (L : FVec Ideal S16384x8 .f32) (r : Fin 16384) (q : Fin 2) :
    (Host.topK S16384x2 1 (FloatOps.cmpfTotal .gt) L sliceFits_S16384x8_S16384x2).1 (ix2 r q)
      = L (ix2 r (sortedFrom (B fun k => L (ix2 r k)) ⟨q.val, by omega⟩)) := by
  rw [← before_eq L r ⟨q.val, by omega⟩, ← along_ix2 r ⟨q.val, by omega⟩]
  unfold Host.topK
  pointwise
  rfl
theorem topk2_at (L : FVec Ideal S16384x8 .f32) (r : Fin 16384) (q : Fin 2) :
    (Host.topK S16384x2 1 (FloatOps.cmpfTotal .gt) L sliceFits_S16384x8_S16384x2).2 (ix2 r q)
      = BitVec.ofNat 32 (sortedFrom (B fun k => L (ix2 r k)) ⟨q.val, by omega⟩).val := by
  rw [← before_eq L r ⟨q.val, by omega⟩]
  unfold Host.topK
  pointwise
  rfl

/-- The two experts and the two gates over 128 lanes, at an index. -/
theorem cat_at (E : IVec S16384x2 32) (G : FVec Ideal S16384x2 .f32) (r : Fin 16384) (q : Fin 128) :
    (pad S16384x128 ![0, 0] ![0, 124] ![0, 0] (concatenate S16384x4 1 [⟨S16384x2, (sitofp .f32 E)⟩, ⟨S16384x2, G⟩] concatenates_S16384x2_S16384x2_S16384x4_d1) (sitofp .f32 (constantI S_ 32 0#32)) pads_S16384x4_S16384x128_000_01240 h_S_ : FVec Ideal S16384x128 .f32) (ix2 r q)
      = if h : q.val < 4 then if h1 : q.val < 2 then FloatOps.sitofp (F := Ideal) FTy.f32 (E (ix2 r ⟨q.val, h1⟩)) else G (ix2 r ⟨q.val - 2, by omega⟩)
        else FloatOps.sitofp (F := Ideal) FTy.f32 0#32 := by
  pointwise

/-- So they are a route where the experts and gates are its own. -/
theorem cat_route (E : IVec S16384x2 32) (G : FVec Ideal S16384x2 .f32) (r : Fin 16384) (q : Fin 128) (a b : Fin 8) (va vb : EReal)
    (e0 : E (ix2 r 0) = BitVec.ofNat 32 a.val) (e1 : E (ix2 r 1) = BitVec.ofNat 32 b.val)
    (g0 : G (ix2 r 0) = Ideal.div 1 (1 + Ideal.exp (vb - va))) (g1 : G (ix2 r 1) = Ideal.div (Ideal.exp (vb - va)) (1 + Ideal.exp (vb - va))) :
    (pad S16384x128 ![0, 0] ![0, 124] ![0, 0] (concatenate S16384x4 1 [⟨S16384x2, (sitofp .f32 E)⟩, ⟨S16384x2, G⟩] concatenates_S16384x2_S16384x2_S16384x4_d1) (sitofp .f32 (constantI S_ 32 0#32)) pads_S16384x4_S16384x128_000_01240 h_S_ : FVec Ideal S16384x128 .f32) (ix2 r q)
      = route a b va vb q := by
  rw [cat_at]
  unfold route
  rcases (by omega : q.val = 0 ∨ q.val = 1 ∨ q.val = 2 ∨ q.val = 3 ∨ 4 ≤ q.val) with h | h | h | h | h
  · rw [dif_pos (by omega), dif_pos (by omega), if_pos h, ← e0]
    exact congrArg (fun k => FloatOps.sitofp (F := Ideal) FTy.f32 (E (ix2 r k))) (Fin.ext h)
  · rw [dif_pos (by omega), dif_pos (by omega), if_neg (by omega), if_pos h, ← e1]
    exact congrArg (fun k => FloatOps.sitofp (F := Ideal) FTy.f32 (E (ix2 r k))) (Fin.ext h)
  · rw [dif_pos (by omega), dif_neg (by omega), if_neg (by omega), if_neg (by omega), if_pos h, ← g0]
    exact congrArg (fun k => G (ix2 r k)) (Fin.ext (by simp only [h]; rfl))
  · rw [dif_pos (by omega), dif_neg (by omega), if_neg (by omega), if_neg (by omega), if_neg (by omega), if_pos h, ← g1]
    exact congrArg (fun k => G (ix2 r k)) (Fin.ext (by simp only [h]; rfl))
  · rw [dif_neg (by omega), if_neg (by omega), if_neg (by omega), if_neg (by omega), if_neg (by omega), sitofp_zero]

/-- The reference's routes, as composed from its logits. -/
def refR (L : FVec Ideal S16384x8 .f32) : FVec Ideal S16384x128 .f32 :=
  pad S16384x128 ![0, 0] ![0, 124] ![0, 0] (concatenate S16384x4 1 [⟨S16384x2, (sitofp .f32 (Host.topK S16384x2 1 (FloatOps.cmpfTotal .gt) L sliceFits_S16384x8_S16384x2).2)⟩, ⟨S16384x2, gates (Host.topK S16384x2 1 (FloatOps.cmpfTotal .gt) L sliceFits_S16384x8_S16384x2).1⟩] concatenates_S16384x2_S16384x2_S16384x4_d1) (sitofp .f32 (constantI S_ 32 0#32)) pads_S16384x4_S16384x128_000_01240 h_S_

/-- The reference's routes at an index, where the row's logits are finite. -/
theorem refR_at (L : FVec Ideal S16384x8 .f32) (r : Fin 16384) (q : Fin 128) (v : Fin 8 → EReal) (hL : ∀ k, L (ix2 r k) = v k) (hv : ∀ k, IsReal (v k)) :
    refR L (ix2 r q) = pick v q := by
  have eL : (fun k => L (ix2 r k)) = v := funext hL
  have t0 := topk1_at L r 0
  have t1 := topk1_at L r 1
  have e0 := topk2_at L r 0
  have e1 := topk2_at L r 1
  rw [eL] at e0 e1
  rw [eL, hL] at t0 t1
  unfold refR pick
  revert t0 t1 e0 e1
  generalize (Host.topK S16384x2 1 (FloatOps.cmpfTotal .gt) L sliceFits_S16384x8_S16384x2).1 = T
  generalize (Host.topK S16384x2 1 (FloatOps.cmpfTotal .gt) L sliceFits_S16384x8_S16384x2).2 = E
  intro t0 t1 e0 e1
  have hg := fun q' => gates_at T r q' _ _ t0 t1 ((first_sorted v).1 _) (hv _)
  refine cat_route E (gates T) r q _ _ _ _ e0 e1 ?_ ?_
  · rw [hg 0, t0, (hv _).sub_self, exp_zero]; rfl
  · rw [hg 1, t1]; rfl

/-- The reference's second result is its routes of its logits. -/
theorem res_eq (m : (ℓ : Loc nD τ sig) → Buf (Elt Ideal) ℓ) (c : Dev nD) :
    Cert.Reference7Ideal.Value.res_main_v27 m c = refR (refL (m ((c : Thread nD τ).loc main_arg0)) (m ((c : Thread nD τ).loc main_arg1)) (m ((c : Thread nD τ).loc main_arg2))) := by
  unfold Cert.Reference7Ideal.Value.res_main_v27 refR refL refH gates
  rfl

/-- `algebraic` of the router: where the norm's weight and the router's are finite, both programs leave the same normalised
    rows and the same routes. -/
theorem algebraic : Cert.algebraic_Kernel7Ideal_Reference7Ideal_pre_finite_weights := fun m ρ m' ρ' hpre hag =>
  have hf : ∀ c, Fine m c := fun c => pre_at _ _ _ (hpre c)
  ⟨fun c => G1 (X m c) (NW m c), fun c => G2 (X m c) (NW m c) (W m c), run m ρ hf,
    (θ_run _ _ _).mono (fun _ h c => by
      obtain ⟨e1, e2, e4⟩ := h c
      rw [res_eq] at e2
      rw [(hag c).1, (hag c).2.1] at e1
      rw [(hag c).1, (hag c).2.1, (hag c).2.2] at e2
      refine ⟨e1.trans ?_, e2.trans ?_, e4⟩
      · funext i
        obtain ⟨r, k, rfl⟩ : ∃ (r : Fin 16384) (k : Fin 2048), i = ix2 r k := ⟨i 0, i 1, eq_ix2 i⟩
        exact refH_at _ _ r k
      · funext i
        obtain ⟨r, q, rfl⟩ : ∃ (r : Fin 16384) (q : Fin 128), i = ix2 r q := ⟨i 0, i 1, eq_ix2 i⟩
        exact refR_at (refL (X m c) (NW m c) (W m c)) r q _ (refL_at (X m c) (NW m c) (W m c) r)
          fun k => IsReal.sum _ fun l => (hid_real _ _ _ l (hf c l 0).1).mul (hf c l k).2)
      (Cert.Reference7Ideal.Value.run m' ρ')⟩

/-- The reference's frame, its program declaring no semaphore. -/
theorem frame_ref : Cert.quiescent_Reference7Ideal := fun m ρ _ =>
  (θ_run _ _ _).mono (fun r h => ⟨fun c => (h c).2.2, sem_eq_zero_of_no_sems (by decide) r.2⟩)
    (Cert.Reference7Ideal.Value.run m ρ)
/-- The same where the precondition holds. -/
theorem frame_ref_pre : Cert.quiescent_Reference7Ideal_pre_finite_weights := fun m ρ _ => frame_ref m ρ trivial

end Cert.Proof.Router

end
-- ==== Proof.lean ====
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Kernel6
public import proofs.«01_k».proof.Proof.Gen.Kernel6.Frame
public import proofs.«01_k».proof.Proof.Gen.Kernel6Ideal
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Kernel7
public import proofs.«01_k».proof.Proof.Gen.Kernel7.Frame
public import proofs.«01_k».proof.Proof.Gen.Kernel7Ideal
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Pre_finite_weights
public import proofs.«01_k».proof.Proof.RetRef
public import proofs.«01_k».proof.Proof.Ffn
public import proofs.«01_k».proof.Proof.Proj
public import proofs.«01_k».proof.Proof.Merge
public import proofs.«01_k».proof.Proof.Out
public import proofs.«01_k».proof.Proof.Norm
public import proofs.«01_k».proof.Proof.RouterRef
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts, Cert.Pre_finite_weights.Gen.facts,
  fun m ρ _ => Cert.Kernel.Gen.frame m ρ, fun m ρ _ => Cert.KernelIdeal.Gen.frame m ρ,
  Cert.Proof.RetRef.frame_ref,
  fun m ρ _ => Cert.Kernel2.Gen.frame m ρ, fun m ρ _ => Cert.Kernel2Ideal.Gen.frame m ρ, Cert.Proof.Ffn.frame_ref,
  fun m ρ _ => Cert.Kernel3.Gen.frame m ρ, fun m ρ _ => Cert.Kernel3Ideal.Gen.frame m ρ, Cert.Proof.Proj.frame_ref,
  fun m ρ _ => Cert.Kernel4.Gen.frame m ρ, fun m ρ _ => Cert.Kernel4Ideal.Gen.frame m ρ, Cert.Proof.Merge.frame_ref,
  fun m ρ _ => Cert.Kernel5.Gen.frame m ρ, fun m ρ _ => Cert.Kernel5Ideal.Gen.frame m ρ, Cert.Proof.Out.frame_ref,
  fun m ρ _ => Cert.Kernel6.Gen.frame m ρ, fun m ρ _ => Cert.Kernel6Ideal.Gen.frame m ρ, Cert.Proof.Norm.frame_ref,
  fun m ρ _ => Cert.Kernel7.Gen.frame m ρ, fun m ρ _ => Cert.Kernel7Ideal.Gen.frame m ρ,
  fun m ρ _ => Cert.Kernel7Ideal.Gen.frame m ρ, Cert.Proof.Router.frame_ref, Cert.Proof.Router.frame_ref_pre,
  trivial, Cert.Proof.RetRef.algebraic, trivial, Cert.Proof.Ffn.algebraic, trivial, Cert.Proof.Proj.algebraic,
  trivial, Cert.Proof.Merge.algebraic, trivial, Cert.Proof.Out.algebraic,
  trivial, Cert.Proof.Norm.algebraic,
  trivial, Cert.Proof.Router.algebraic⟩

end Cert.Proof

end
